-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S100000x128 : Shape := ⟨2, ![100000, 128]⟩
abbrev S1x128 : Shape := ⟨2, ![1, 128]⟩
abbrev S10000x128 : Shape := ⟨2, ![10000, 128]⟩
abbrev S80x128 : Shape := ⟨2, ![80, 128]⟩
abbrev S128 : Shape := ⟨1, ![128]⟩

abbrev nBuf : Space → Nat
  | .hbm => 3
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S100000x128, .f32⟩
  | .hbm, ⟨2, _⟩ => ⟨S1x128, .i32⟩
  | .local _ .vmem, ⟨0, _⟩ => ⟨S10000x128, .f32⟩
  | .local _ .vmem, ⟨1, _⟩ => ⟨S10000x128, .f32⟩
  | .local _ .vmem, ⟨2, _⟩ => ⟨S1x128, .i32⟩
  | .local _ .vmem, ⟨3, _⟩ => ⟨S1x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32_0 : BitVec 32 := 0#32
  let c125_i32 : BitVec 32 := 125#32
  let v6 : BitVec 32 := Scalar.addi c0_i32_0 c125_i32
  let c1_i32 : BitVec 32 := 1#32
  ⟨c0_i32_0, v6, c1_i32⟩
def k0_off1 (k0_t1 : Fin k0_t1_loop.trips) : Fin 2 → Nat :=
  let c0_i32_0 : BitVec 32 := 0#32
  let c1_i32 : BitVec 32 := 1#32
  let arg4 : BitVec 32 := Scf.iv c0_i32_0 c1_i32 k0_t1
  let c80_i32 : BitVec 32 := 80#32
  let v22 : BitVec 32 := Scalar.muli arg4 c80_i32
  let v203 : Index := Scalar.indexCast v22
  let c0 : Index := 0#32
  ![v203.toNat, 0]
def k0_cond1 (i : grid0.Coords) : BitVec 1 :=
  let arg0 : BitVec 32 := BitVec.ofNat 32 (i 0).val
  let c0_i32_4 : BitVec 32 := 0#32
  let v16 : BitVec 1 := Scalar.cmpi .eq arg0 c0_i32_4
  let v17 : BitVec 32 := Scalar.extui v16
  let c0_i32_5 : BitVec 32 := 0#32
  let v18 : BitVec 1 := Scalar.cmpi .ne v17 c0_i32_5
  v18

def k0_cond2 (i : grid0.Coords) : BitVec 1 :=
  let arg0 : BitVec 32 := BitVec.ofNat 32 (i 0).val
  let c0_i32_6 : BitVec 32 := 0#32
  let v19 : BitVec 1 := Scalar.cmpi .sgt arg0 c0_i32_6
  let v20 : BitVec 32 := Scalar.extui v19
  let c0_i32_7 : BitVec 32 := 0#32
  let v21 : BitVec 1 := Scalar.cmpi .ne v20 c0_i32_7
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S1x128 : Shape := ⟨2, ![1, 128]⟩

abbrev nBuf : Space → Nat
  | .hbm => 289
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x100000, .f32⟩
  | 27 => ⟨S128x100000, .i32⟩
  | 28 => ⟨S_, .f32⟩
  | 29 => ⟨S_, .i32⟩
  | 30 => ⟨S128, .f32⟩
  | 31 => ⟨S128, .i32⟩
  | 32 => ⟨S1x128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_call1_v0 : Ref sig .tc := ⟨.hbm, 283, rfl⟩
abbrev main_call1_cst : Ref sig .tc := ⟨.hbm, 284, rfl⟩
abbrev main_call1_c : Ref sig .tc := ⟨.hbm, 285, rfl⟩
abbrev main_call1_v1_0 : Ref sig .tc := ⟨.hbm, 286, rfl⟩
abbrev main_v15 : Ref sig .tc := ⟨.hbm, 287, rfl⟩
abbrev main_v16 : Ref sig .tc := ⟨.hbm, 288, rfl⟩

abbrev nD : Nat := 1
abbrev τ : Topo := Topo.v7x

variable {F : FTy → Type} [FloatOps F]
-- ==== Proof.Words.lean ====
/-
  The counter based generator as functions on words.

  One counter word `x` goes through five groups of four mixing rounds, each group followed by an
  addition of two key words; the two words left over are combined by an exclusive or.  Both programs
  compute this function at every (lane, column) pair, in different schedules; the modules beside this
  one show that for each of them.
-/
module

public import Idealize.ShloMosaic.PureOps.Ideal

@[expose] public section
noncomputable section

namespace Cert.Sampler
open Idealize.ShloMosaic

/-- A 32-bit word. -/
abbrev W := BitVec 32

/-- One mixing round on a pair of words: add, rotate the second by `a` (`b = 32 − a`), exclusive or. -/
def mix (a b : W) (p : W × W) : W × W :=
  (p.1 + p.2, (p.1 + p.2) ^^^ (p.2 <<< a ||| p.2 >>> b))

/-- Four rounds with the rotations of the odd groups. -/
def quadA (p : W × W) : W × W := mix 6#32 26#32 (mix 26#32 6#32 (mix 15#32 17#32 (mix 13#32 19#32 p)))

/-- Four rounds with the rotations of the even groups. -/
def quadB (p : W × W) : W × W := mix 24#32 8#32 (mix 16#32 16#32 (mix 29#32 3#32 (mix 17#32 15#32 p)))

/-- The addition of two key words after a group. -/
def inj (k l : W) (p : W × W) : W × W := (p.1 + k, p.2 + l)

/-- The pair entering the first group. -/
def start (x : W) : W × W := (0#32, x + 42#32)
/-- The pair after the first group. -/
def stage1 (x : W) : W × W := inj 42#32 466689009#32 (quadA (start x))
/-- The pair after the second group. -/
def stage2 (x : W) : W × W := inj 466689008#32 2#32 (quadB (stage1 x))
/-- The pair after the third group. -/
def stage3 (x : W) : W × W := inj 0#32 45#32 (quadA (stage2 x))
/-- The pair after the fourth group. -/
def stage4 (x : W) : W × W := inj 42#32 466689012#32 (quadB (stage3 x))
/-- The pair after the fifth group. -/
def stage5 (x : W) : W × W := inj 466689008#32 5#32 (quadA (stage4 x))

/-- The random word of counter `x`. -/
def rbits (x : W) : W := (stage5 x).1 ^^^ (stage5 x).2

/-- The word of the float in `[1, 2)` whose fraction bits are the top 23 of the random word. -/
def mant (x : W) : W := (rbits x >>> 9#32) ||| 1065353216#32

/-- The counter of a lane and a column. -/
def ctr (lane col : ℕ) : W := BitVec.ofNat 32 (lane * 100000 + col)

/-- The uniform draw of a lane and a column: the fraction, at least the smallest normal number. -/
def unif (lane col : ℕ) : EReal :=
  max (Ideal.ofBits .f32 (mant (ctr lane col)) - Ideal.ofBits .f32 0x3F800000#32) (Ideal.ofBits .f32 0x00800000#32)

/-- A logit with its noise: `l − log (−log u)`. -/
def noisy (l : EReal) (lane col : ℕ) : EReal := l - Ideal.log (-(Ideal.log (unif lane col)))

end Cert.Sampler

end
-- ==== Proof.StripBits.lean ====
/-
  The random words of one strip of the kernel.

  A trip of the kernel's loop draws 80 × 128 random words by straight line vector code, cut into
  four pieces.  Each piece is read at one element: what it leaves is the next part of the schedule
  of `Words`, so the last piece leaves the fraction of `rbits` at the element's counter.
-/
module

public import proofs.«01_k».proof.Proof.Words
public import Idealize.ShloMosaic.Lib.Pointwise
public import proofs.«01_k».proof.Proof.Gen.KernelIdeal.Value

@[expose] public section
set_option maxRecDepth 16384
noncomputable section

namespace Cert.Sampler
open Idealize.ShloMosaic Idealize.ShloMosaic.ValueIdx Idealize.ShloMosaic.TcCoe Idealize.SL.Sem
open Cert.KernelIdeal Cert.KernelIdeal.Gen

/-- The first word after a round, read at an element. -/
theorem vmix_fst (S X : IVec S80x128 32) (i : S80x128.Idx) (a b : W) (p : W × W) (hs : S i = p.1) (hx : X i = p.2) :
    addi S X i = (mix a b p).1 := by
  show S i + X i = p.1 + p.2
  rw [hs, hx]

/-- The second word after a round, read at an element: `T` is the sum already made. -/
theorem vmix_snd (T X : IVec S80x128 32) (i : S80x128.Idx) (a b : W) (ha : a.toNat < 32) (hb : b.toNat < 32)
    (p : W × W) (ht : T i = (mix a b p).1) (hx : X i = p.2) :
    xori T (ori (shli X (broadcast S80x128 a)) (shrui X (broadcast S80x128 b))) i = (mix a b p).2 := by
  have e1 : shli X (broadcast S80x128 a) i = X i <<< a := if_pos ha
  have e2 : shrui X (broadcast S80x128 b) i = X i >>> b := if_pos hb
  show T i ^^^ (shli X (broadcast S80x128 a) i ||| shrui X (broadcast S80x128 b) i) = _
  rw [e1, e2, ht, hx]
  rfl

/-- A right shift by nine, read at an element. -/
theorem vshr9 (X : IVec S80x128 32) (i : S80x128.Idx) : shrui X (broadcast S80x128 9#32) i = X i >>> 9#32 := by
  show IntOp.shrui .vector (X i) 9#32 = _
  unfold IntOp.shrui
  rw [if_pos (by decide)]

/-- A key word added to a vector, read at an element. -/
theorem vadd (X : IVec S80x128 32) (i : S80x128.Idx) (k y : W) (hx : X i = y) :
    addi X (broadcast S80x128 k) i = y + k := by
  show X i + k = y + k
  rw [hx]

/-- The first piece: the second word of the pair after the first group, and the sum of that pair,
    which opens the second group. -/
theorem part1 (arg0 : BitVec 32) (v3 : IVec S80x128 32) (k : Fin k0_t1_loop.trips) (i : S80x128.Idx) (x : W)
    (h : k0_pay1 i + k0_pay14 arg0 v3 0#32 1#32 k i = x) :
    k0_pay23 arg0 k0_pay1 v3 0#32 1#32 k i = (stage1 x).2
      ∧ k0_pay24 arg0 k0_pay1 v3 0#32 1#32 k i = (stage1 x).1 + (stage1 x).2 := by
  have h15 : k0_pay15 arg0 k0_pay1 v3 0#32 1#32 k i = (start x).2 := vadd _ i 42#32 x h
  have h16 : k0_pay16 arg0 k0_pay1 v3 0#32 1#32 k i = (mix 13#32 19#32 (start x)).1 :=
    vmix_fst (addi (broadcast S80x128 0#32) (broadcast S80x128 0#32)) _ i _ _ (start x) rfl h15
  have h17 : k0_pay17 arg0 k0_pay1 v3 0#32 1#32 k i = (mix 13#32 19#32 (start x)).2 := vmix_snd _ (k0_pay15 arg0 k0_pay1 v3 0#32 1#32 k) i _ _ (by decide) (by decide) _ h16 h15
  have h18 : k0_pay18 arg0 k0_pay1 v3 0#32 1#32 k i = (mix 15#32 17#32 (mix 13#32 19#32 (start x))).1 := vmix_fst _ _ i _ _ _ h16 h17
  have h19 : k0_pay19 arg0 k0_pay1 v3 0#32 1#32 k i = (mix 15#32 17#32 (mix 13#32 19#32 (start x))).2 := vmix_snd _ (k0_pay17 arg0 k0_pay1 v3 0#32 1#32 k) i _ _ (by decide) (by decide) _ h18 h17
  have h20 : k0_pay20 arg0 k0_pay1 v3 0#32 1#32 k i = (mix 26#32 6#32 (mix 15#32 17#32 (mix 13#32 19#32 (start x)))).1 := vmix_fst _ _ i _ _ _ h18 h19
  have h21 : k0_pay21 arg0 k0_pay1 v3 0#32 1#32 k i = (mix 26#32 6#32 (mix 15#32 17#32 (mix 13#32 19#32 (start x)))).2 := vmix_snd _ (k0_pay19 arg0 k0_pay1 v3 0#32 1#32 k) i _ _ (by decide) (by decide) _ h20 h19
  have h22 : k0_pay22 arg0 k0_pay1 v3 0#32 1#32 k i = (mix 6#32 26#32 (mix 26#32 6#32 (mix 15#32 17#32 (mix 13#32 19#32 (start x))))).1 := vmix_fst _ _ i _ _ _ h20 h21
  have h23 : k0_pay23 arg0 k0_pay1 v3 0#32 1#32 k i = (stage1 x).2 :=
    vadd _ i 466689009#32 _ (vmix_snd _ (k0_pay21 arg0 k0_pay1 v3 0#32 1#32 k) i 6#32 26#32 (by decide) (by decide) _ h22 h21)
  exact ⟨h23, congrArg₂ (· + ·) (vadd (k0_pay22 arg0 k0_pay1 v3 0#32 1#32 k) i 42#32 _ h22) h23⟩

section
variable (v w : IVec S80x128 32) (i : S80x128.Idx) (p : W × W) (hv : v i = p.2) (hw : w i = p.1 + p.2)
include hv hw

/-- The second piece: the second group and two rounds of the third, with the sum opening the next. -/
theorem part2 : k0_pay35 v w i
      = (mix 15#32 17#32 (mix 13#32 19#32 (inj 466689008#32 2#32 (quadB p)))).2
    ∧ k0_pay36 v w i = (mix 15#32 17#32 (mix 13#32 19#32 (inj 466689008#32 2#32 (quadB p)))).1
      + (mix 15#32 17#32 (mix 13#32 19#32 (inj 466689008#32 2#32 (quadB p)))).2 := by
  have h25 : k0_pay25 v w i = (mix 17#32 15#32 p).2 := vmix_snd _ v i _ _ (by decide) (by decide) p hw hv
  have h26 : k0_pay26 v w i = (mix 29#32 3#32 (mix 17#32 15#32 p)).1 := vmix_fst _ _ i _ _ _ hw h25
  have h27 : k0_pay27 v w i = (mix 29#32 3#32 (mix 17#32 15#32 p)).2 := vmix_snd _ (k0_pay25 v w) i _ _ (by decide) (by decide) (mix 17#32 15#32 p) h26 h25
  have h28 : k0_pay28 v w i = (mix 16#32 16#32 (mix 29#32 3#32 (mix 17#32 15#32 p))).1 := vmix_fst _ _ i _ _ _ h26 h27
  have h29 : k0_pay29 v w i = (mix 16#32 16#32 (mix 29#32 3#32 (mix 17#32 15#32 p))).2 := vmix_snd _ (k0_pay27 v w) i _ _ (by decide) (by decide) (mix 29#32 3#32 (mix 17#32 15#32 p)) h28 h27
  have h30 : k0_pay30 v w i = (mix 24#32 8#32 (mix 16#32 16#32 (mix 29#32 3#32 (mix 17#32 15#32 p)))).1 := vmix_fst _ _ i _ _ _ h28 h29
  have h31 : k0_pay31 v w i = (inj 466689008#32 2#32 (quadB p)).2 :=
    vadd _ i 2#32 _ (vmix_snd _ (k0_pay29 v w) i 24#32 8#32 (by decide) (by decide) _ h30 h29)
  have h32 : k0_pay32 v w i = (mix 13#32 19#32 (inj 466689008#32 2#32 (quadB p))).1 :=
    vmix_fst _ _ i _ _ (inj 466689008#32 2#32 (quadB p)) (vadd (k0_pay30 v w) i 466689008#32 _ h30) h31
  have h33 : k0_pay33 v w i = (mix 13#32 19#32 (inj 466689008#32 2#32 (quadB p))).2 :=
    vmix_snd _ (k0_pay31 v w) i _ _ (by decide) (by decide) _ h32 h31
  have h34 : k0_pay34 v w i = (mix 15#32 17#32 (mix 13#32 19#32 (inj 466689008#32 2#32 (quadB p)))).1 :=
    vmix_fst _ _ i _ _ _ h32 h33
  have h35 : k0_pay35 v w i = (mix 15#32 17#32 (mix 13#32 19#32 (inj 466689008#32 2#32 (quadB p)))).2 :=
    vmix_snd _ (k0_pay33 v w) i _ _ (by decide) (by decide) _ h34 h33
  exact ⟨h35, congrArg₂ (· + ·) h34 h35⟩

/-- The third piece: the rest of the third group and the four rounds of the fourth. -/
theorem part3 : k0_pay46 v w i
      = (quadB (inj 0#32 45#32 (mix 6#32 26#32 (mix 26#32 6#32 p)))).1
    ∧ k0_pay47 v w i
      = (quadB (inj 0#32 45#32 (mix 6#32 26#32 (mix 26#32 6#32 p)))).2 := by
  have h37 : k0_pay37 v w i = (mix 26#32 6#32 p).2 := vmix_snd _ v i _ _ (by decide) (by decide) p hw hv
  have h38 : k0_pay38 v w i = (mix 6#32 26#32 (mix 26#32 6#32 p)).1 := vmix_fst _ _ i _ _ _ hw h37
  have h39 : k0_pay39 v w i = (inj 0#32 45#32 (mix 6#32 26#32 (mix 26#32 6#32 p))).2 :=
    vadd _ i 45#32 _ (vmix_snd _ (k0_pay37 v w) i 6#32 26#32 (by decide) (by decide) _ h38 h37)
  have h40 : k0_pay40 v w i = (mix 17#32 15#32 (inj 0#32 45#32 (mix 6#32 26#32 (mix 26#32 6#32 p)))).1 :=
    vmix_fst _ _ i _ _ (inj 0#32 45#32 (mix 6#32 26#32 (mix 26#32 6#32 p))) (vadd (k0_pay38 v w) i 0#32 _ h38) h39
  generalize inj 0#32 45#32 (mix 6#32 26#32 (mix 26#32 6#32 p)) = q at h39 h40 ⊢
  have h41 : k0_pay41 v w i = (mix 17#32 15#32 q).2 := vmix_snd _ (k0_pay39 v w) i _ _ (by decide) (by decide) q h40 h39
  have h42 : k0_pay42 v w i = (mix 29#32 3#32 (mix 17#32 15#32 q)).1 := vmix_fst _ _ i _ _ _ h40 h41
  have h43 : k0_pay43 v w i = (mix 29#32 3#32 (mix 17#32 15#32 q)).2 := vmix_snd _ (k0_pay41 v w) i _ _ (by decide) (by decide) (mix 17#32 15#32 q) h42 h41
  have h44 : k0_pay44 v w i = (mix 16#32 16#32 (mix 29#32 3#32 (mix 17#32 15#32 q))).1 := vmix_fst _ _ i _ _ _ h42 h43
  have h45 : k0_pay45 v w i = (mix 16#32 16#32 (mix 29#32 3#32 (mix 17#32 15#32 q))).2 := vmix_snd _ (k0_pay43 v w) i _ _ (by decide) (by decide) (mix 29#32 3#32 (mix 17#32 15#32 q)) h44 h43
  have h46 : k0_pay46 v w i = (mix 24#32 8#32 (mix 16#32 16#32 (mix 29#32 3#32 (mix 17#32 15#32 q)))).1 := vmix_fst _ _ i _ _ _ h44 h45
  have h47 : k0_pay47 v w i = (mix 24#32 8#32 (mix 16#32 16#32 (mix 29#32 3#32 (mix 17#32 15#32 q)))).2 := vmix_snd _ (k0_pay45 v w) i _ _ (by decide) (by decide) (mix 16#32 16#32 (mix 29#32 3#32 (mix 17#32 15#32 q))) h46 h45
  exact ⟨h46, h47⟩
end

/-- A word read as a float, less a constant, at an element. -/
theorem frac_apply (m : IVec S80x128 32) (c : BitVec 32) (i : S80x128.Idx) :
    subf (F := Ideal) (bitcastToFloat .f32 m) (broadcast S80x128 (Scalar.ofBits .f32 c)) i
      = Ideal.ofBits .f32 (m i) - Ideal.ofBits .f32 c := rfl

/-- The fourth piece with its rounds named. -/
theorem pay48_eq (v w : IVec S80x128 32) : k0_pay48 (F := Ideal) v w 42#32 =
    (let x0 : IVec S80x128 32 := addi v (broadcast S80x128 42#32)
     let y0 : IVec S80x128 32 := addi w (broadcast S80x128 466689012#32)
     let x1 : IVec S80x128 32 := addi x0 y0
     let y1 : IVec S80x128 32 := xori x1 (ori (shli y0 (broadcast S80x128 13#32)) (shrui y0 (broadcast S80x128 19#32)))
     let x2 : IVec S80x128 32 := addi x1 y1
     let y2 : IVec S80x128 32 := xori x2 (ori (shli y1 (broadcast S80x128 15#32)) (shrui y1 (broadcast S80x128 17#32)))
     let x3 : IVec S80x128 32 := addi x2 y2
     let y3 : IVec S80x128 32 := xori x3 (ori (shli y2 (broadcast S80x128 26#32)) (shrui y2 (broadcast S80x128 6#32)))
     let x4 : IVec S80x128 32 := addi x3 y3
     let y4 : IVec S80x128 32 := xori x4 (ori (shli y3 (broadcast S80x128 6#32)) (shrui y3 (broadcast S80x128 26#32)))
     let x5 : IVec S80x128 32 := addi x4 (broadcast S80x128 466689008#32)
     let y5 : IVec S80x128 32 := addi y4 (broadcast S80x128 5#32)
     let m : IVec S80x128 32 := ori (shrui (xori x5 y5) (broadcast S80x128 9#32)) (broadcast S80x128 1065353216#32)
     subf (F := Ideal) (bitcastToFloat .f32 m) (broadcast S80x128 (Scalar.ofBits .f32 0x3F800000#32))) := rfl

/-- The fourth piece: the fifth group, the exclusive or and the fraction. -/
theorem part4 (v w : IVec S80x128 32) (i : S80x128.Idx) (x : W)
    (hv : v i = (quadB (stage3 x)).1) (hw : w i = (quadB (stage3 x)).2) :
    k0_pay48 (F := Ideal) v w 42#32 i
      = Ideal.ofBits .f32 (mant x) - Ideal.ofBits .f32 0x3F800000#32 := by
  rw [pay48_eq]
  extract_lets x0 y0 x1 y1 x2 y2 x3 y3 x4 y4 x5 y5 m
  have a0 : x0 i = (stage4 x).1 := vadd v i 42#32 _ hv
  have b0 : y0 i = (stage4 x).2 := vadd w i 466689012#32 _ hw
  have a1 : x1 i = (mix 13#32 19#32 (stage4 x)).1 := vmix_fst x0 y0 i _ _ _ a0 b0
  have b1 : y1 i = (mix 13#32 19#32 (stage4 x)).2 := vmix_snd x1 y0 i _ _ (by decide) (by decide) _ a1 b0
  have a2 : x2 i = (mix 15#32 17#32 (mix 13#32 19#32 (stage4 x))).1 := vmix_fst x1 y1 i _ _ _ a1 b1
  have b2 : y2 i = (mix 15#32 17#32 (mix 13#32 19#32 (stage4 x))).2 := vmix_snd x2 y1 i _ _ (by decide) (by decide) _ a2 b1
  have a3 : x3 i = (mix 26#32 6#32 (mix 15#32 17#32 (mix 13#32 19#32 (stage4 x)))).1 := vmix_fst x2 y2 i _ _ _ a2 b2
  have b3 : y3 i = (mix 26#32 6#32 (mix 15#32 17#32 (mix 13#32 19#32 (stage4 x)))).2 := vmix_snd x3 y2 i _ _ (by decide) (by decide) _ a3 b2
  have a4 : x4 i = (mix 6#32 26#32 (mix 26#32 6#32 (mix 15#32 17#32 (mix 13#32 19#32 (stage4 x))))).1 := vmix_fst x3 y3 i _ _ _ a3 b3
  have b4 : y4 i = (mix 6#32 26#32 (mix 26#32 6#32 (mix 15#32 17#32 (mix 13#32 19#32 (stage4 x))))).2 := vmix_snd x4 y3 i _ _ (by decide) (by decide) _ a4 b3
  have a5 : x5 i = (stage5 x).1 := vadd x4 i 466689008#32 _ a4
  have b5 : y5 i = (stage5 x).2 := vadd y4 i 5#32 _ b4
  have hm : m i = mant x := by
    show shrui (xori x5 y5) (broadcast S80x128 9#32) i ||| 1065353216#32 = _
    rw [vshr9]
    show ((x5 i ^^^ y5 i) >>> 9#32) ||| 1065353216#32 = _
    rw [a5, b5]
    rfl
  rw [frac_apply, hm]

/-- The fraction a trip draws at an element, from the element's counter. -/
theorem strip_frac (arg0 : BitVec 32) (v3 : IVec S80x128 32) (k : Fin k0_t1_loop.trips) (i : S80x128.Idx) (x : W)
    (h : k0_pay1 i + k0_pay14 arg0 v3 0#32 1#32 k i = x) :
    trip_k0_t1.sl.r (F := Ideal) arg0 v3 k i
      = Ideal.ofBits .f32 (mant x) - Ideal.ofBits .f32 0x3F800000#32 := by
  have h1 := part1 arg0 v3 k i x h
  have h2 := part2 _ _ i _ h1.1 h1.2
  have h3 := part3 _ _ i _ h2.1 h2.2
  exact part4 _ _ i x h3.1 h3.2

end Cert.Sampler

end
-- ==== Proof.Score.lean ====
/-
  The score of a column, on a lane: the logit there with its noise, as a function of the column number.
-/
module

public import proofs.«01_k».proof.Proof.Words

@[expose] public section
noncomputable section

namespace Cert.Sampler
open Idealize.ShloMosaic

/-- The shape of the logits: 128 lanes, 100000 columns. -/
abbrev Logits : Shape := ⟨2, ![128, 100000]⟩

/-- The place of a lane and a column in the logits. -/
def place (lane : Fin 128) (col : Fin 100000) : Logits.Idx := fun a =>
  match a with
  | ⟨0, _⟩ => lane
  | ⟨1, _⟩ => col

theorem place_self (j : Logits.Idx) : place (j 0) (j 1) = j := by
  funext a
  match a with
  | ⟨0, _⟩ => rfl
  | ⟨1, _⟩ => rfl

/-- The score of column `c` on a lane; columns that are not there count as logit `0`. -/
def score (A : Logits.Idx → EReal) (lane : Fin 128) (c : ℕ) : EReal :=
  noisy (if h : c < 100000 then A (place lane ⟨c, h⟩) else 0) lane.val c

theorem score_place (A : Logits.Idx → EReal) (lane : Fin 128) (c : ℕ) (h : c < 100000) :
    score A lane c = noisy (A (place lane ⟨c, h⟩)) lane.val c := by
  unfold score
  rw [dif_pos h]

theorem score_at (A : Logits.Idx → EReal) (j : Logits.Idx) : score A (j 0) (j 1).val = noisy (A j) (j 0).val (j 1).val :=
  (score_place A (j 0) (j 1).val (j 1).isLt).trans (congrArg (fun k => noisy (A k) _ _) (place_self j))

/-- The pattern of minus infinity. -/
theorem neg_inf : Ideal.ofBits .f32 0xFF800000#32 = ⊥ := by
  simp [Ideal.ofBits, Ideal.ieee]

end Cert.Sampler

end
-- ==== Proof.Argmax.lean ====
/-
  The first place of a maximum, and how partial answers combine.

  `First f P b i` says that `b` bounds `f` over the places in `P` and that `i` is the first of those
  places where `f` reaches `b`; a bound of `−∞` always goes with place `0`.  Such a pair is determined
  by `f` and `P`.  The lemmas are the ways in which the two programs grow `P`: one later place, one
  place in any order, a family of parts side by side, and a later part.
-/
module

public import Idealize.ShloMosaic.PureOps.Ideal

@[expose] public section

namespace Cert.Sampler

/-- `b` is the largest value of `f` over `P` and `i` the first place that has it (`0` if `b = −∞`). -/
def First (f : ℕ → EReal) (P : ℕ → Prop) (b : EReal) (i : ℕ) : Prop :=
  (∀ c, P c → f c ≤ b) ∧ ((b = ⊥ ∧ i = 0) ∨ (⊥ < b ∧ P i ∧ f i = b ∧ ∀ c, P c → f c = b → i ≤ c))

variable {f : ℕ → EReal} {P Q : ℕ → Prop} {b b' : EReal} {i i' c : ℕ}

theorem First.congr (h : First f P b i) (hPQ : ∀ c, P c ↔ Q c) : First f Q b i := by
  have : P = Q := funext fun c => propext (hPQ c)
  exact this ▸ h

/-- The pair is determined. -/
theorem First.unique (h : First f P b i) (h' : First f P b' i') : i = i' := by
  obtain ⟨hu, h⟩ := h
  obtain ⟨hu', h'⟩ := h'
  rcases h with ⟨hb, hi⟩ | ⟨hb, hp, hf, hm⟩ <;> rcases h' with ⟨hb', hi'⟩ | ⟨hb', hp', hf', hm'⟩
  · rw [hi, hi']
  · exact absurd (hu _ hp') (by rw [hf', hb]; exact not_le_of_gt hb')
  · exact absurd (hu' _ hp) (by rw [hf, hb']; exact not_le_of_gt hb)
  · have e : b = b' := le_antisymm (hf ▸ hu' _ hp) (hf' ▸ hu _ hp')
    exact le_antisymm (hm _ hp' (hf'.trans e.symm)) (hm' _ hp (hf.trans e))

/-- Over no place at all. -/
theorem First.empty : First f (fun _ => False) ⊥ 0 := ⟨fun _ h => h.elim, .inl ⟨rfl, rfl⟩⟩

/-- A later part: it takes over only where it is strictly larger. -/
theorem First.later (h : First f P b i) (h' : First f Q b' i') (hlt : ∀ c d, P c → Q d → c < d) :
    First f (fun c => P c ∨ Q c) (if b < b' then b' else b) (if b < b' then i' else i) := by
  obtain ⟨hu, h⟩ := h
  obtain ⟨hu', h'⟩ := h'
  by_cases hbb : b < b'
  · rw [if_pos hbb, if_pos hbb]
    refine ⟨?_, ?_⟩
    · rintro c (hc | hc)
      · exact (hu c hc).trans hbb.le
      · exact hu' c hc
    · rcases h' with ⟨hb', -⟩ | ⟨hb', hp', hf', hm'⟩
      · exact absurd hbb (by rw [hb']; exact not_lt_bot)
      · refine .inr ⟨hb', .inr hp', hf', ?_⟩
        rintro c (hc | hc) hfc
        · exact absurd (hu c hc) (by rw [hfc]; exact not_le_of_gt hbb)
        · exact hm' c hc hfc
  · rw [if_neg hbb, if_neg hbb]
    have hle : b' ≤ b := not_lt.mp hbb
    refine ⟨?_, ?_⟩
    · rintro c (hc | hc)
      · exact hu c hc
      · exact (hu' c hc).trans hle
    · rcases h with h | ⟨hb, hp, hf, hm⟩
      · exact .inl h
      · refine .inr ⟨hb, .inl hp, hf, ?_⟩
        rintro c (hc | hc) hfc
        · exact hm c hc hfc
        · exact (hlt _ _ hp hc).le

/-- One later place. -/
theorem First.next (h : First f P b i) (hlt : ∀ d, P d → d < c) :
    First f (fun d => P d ∨ d = c) (if b < f c then f c else b) (if b < f c then c else i) := by
  by_cases hc : f c = ⊥
  · have h' : First f (fun d => d = c) (f c) 0 := ⟨fun d hd => by rw [hd], .inl ⟨hc, rfl⟩⟩
    have := h.later h' fun a d ha hd => by rw [hd]; exact hlt a ha
    have hn : ¬ b < f c := by rw [hc]; exact not_lt_bot
    rw [if_neg hn, if_neg hn] at this ⊢
    exact this
  · have h' : First f (fun d => d = c) (f c) c :=
      ⟨fun d hd => by rw [hd], .inr ⟨bot_lt_iff_ne_bot.mpr hc, rfl, rfl, fun d hd _ => by rw [hd]⟩⟩
    exact h.later h' fun a d ha hd => by rw [hd]; exact hlt a ha

/-- One place in any order: among equals the smaller place stays. -/
theorem First.any (h : First f P b i) :
    First f (fun d => P d ∨ d = c) (if f c < b then b else f c) (if f c < b ∨ (b = f c ∧ i < c) then i else c) := by
  obtain ⟨hu, h⟩ := h
  rcases lt_trichotomy (f c) b with hlt | heq | hgt
  · rw [if_pos hlt, if_pos (.inl hlt)]
    refine ⟨?_, ?_⟩
    · rintro d (hd | rfl)
      · exact hu d hd
      · exact hlt.le
    · rcases h with h | ⟨hb, hp, hf, hm⟩
      · exact .inl h
      · refine .inr ⟨hb, .inl hp, hf, ?_⟩
        rintro d (hd | rfl) hfd
        · exact hm d hd hfd
        · exact absurd hfd hlt.ne
  · rw [if_neg (by rw [heq]; exact lt_irrefl b), heq]
    refine ⟨?_, ?_⟩
    · rintro d (hd | rfl)
      · exact hu d hd
      · exact heq.le
    · rcases h with ⟨hb, hi⟩ | ⟨hb, hp, hf, hm⟩
      · refine .inl ⟨hb, ?_⟩
        by_cases hic : i < c
        · rw [if_pos (.inr ⟨rfl, hic⟩)]; exact hi
        · rw [if_neg (by rintro (h | ⟨-, h⟩); exacts [lt_irrefl _ h, hic h])]; omega
      · refine .inr ⟨hb, ?_⟩
        by_cases hic : i < c
        · rw [if_pos (.inr ⟨rfl, hic⟩)]
          refine ⟨.inl hp, hf, ?_⟩
          rintro d (hd | rfl) hfd
          · exact hm d hd hfd
          · exact hic.le
        · rw [if_neg (by rintro (h | ⟨-, h⟩); exacts [lt_irrefl _ h, hic h])]
          refine ⟨.inr rfl, heq, ?_⟩
          rintro d (hd | rfl) hfd
          · have := hm d hd hfd; omega
          · exact le_rfl
  · rw [if_neg (not_lt_of_gt hgt), if_neg (by rintro (h | ⟨h, -⟩); exacts [lt_asymm hgt h, hgt.ne h])]
    refine ⟨?_, .inr ⟨bot_le.trans_lt hgt, .inr rfl, rfl, ?_⟩⟩
    · rintro d (hd | rfl)
      · exact (hu d hd).trans hgt.le
      · exact le_rfl
    · rintro d (hd | rfl) hfd
      · exact absurd (hu d hd) (by rw [hfd]; exact not_le_of_gt hgt)
      · exact le_rfl

/-- Parts side by side: the largest bound, and the smallest place among the parts that have it. -/
theorem First.parts {ι : Type} {P : ι → ℕ → Prop} {b : ι → EReal} {i : ι → ℕ} (h : ∀ s, First f (P s) (b s) (i s))
    {M : EReal} {I : ℕ} (hM : ∀ s, b s ≤ M) (hI : ∃ s, b s = M ∧ i s = I) (hmin : ∀ s, b s = M → I ≤ i s) :
    First f (fun c => ∃ s, P s c) M I := by
  obtain ⟨s, hs, his⟩ := hI
  refine ⟨fun c ⟨t, ht⟩ => ((h t).1 c ht).trans (hM t), ?_⟩
  rcases (h s).2 with ⟨hb, hi⟩ | ⟨hb, hp, hf, hm⟩
  · exact .inl ⟨hs.symm.trans hb, his.symm.trans hi⟩
  · refine .inr ⟨hs ▸ hb, ⟨s, his ▸ hp⟩, his ▸ hf.trans hs, ?_⟩
    rintro c ⟨t, ht⟩ hfc
    have hbt : b t = M := le_antisymm (hM t) (hfc ▸ (h t).1 c ht)
    rcases (h t).2 with ⟨hb', -⟩ | ⟨-, -, -, hm'⟩
    · exact absurd hb (by rw [hs, ← hbt, hb']; exact lt_irrefl _)
    · exact (hmin t hbt).trans (hm' c ht (hfc.trans hbt.symm))

end Cert.Sampler
-- ==== Proof.Reduced.lean ====
/-
  How the kernel brings 80 running pairs of a lane down to one.

  It takes the largest of the 80 scores and then, with the other rows' numbers replaced by the largest
  signed word, the smallest of the numbers.
-/
module

public import proofs.«01_k».proof.Proof.Score
public import proofs.«01_k».proof.Proof.Argmax
public import Idealize.ShloMosaic.Lib.Pipeline.Value
public import Idealize.ShloMosaic.PureOps.Ideal.Laws
public import Idealize.ShloMosaic.PureOps.Reduce
public import proofs.«01_k».proof.Proof.Gen.KernelIdeal.Value

@[expose] public section
set_option maxRecDepth 16384
noncomputable section

namespace Cert.Sampler
open Idealize.ShloMosaic Idealize.ShloMosaic.TcCoe Idealize.SL.Sem
open Cert.KernelIdeal Cert.KernelIdeal.Gen

/-- A lane's place in a row of lanes. -/
def klane (lane : Fin 128) : S128.Idx := fun a =>
  match a with
  | ⟨0, _⟩ => lane

/-- A lane's place in the kernel's row of results. -/
def kslot (lane : Fin 128) : S1x128.Idx := fun a =>
  match a with
  | ⟨0, _⟩ => (0 : Fin 1)
  | ⟨1, _⟩ => lane

/-- A row and a lane of a strip. -/
def cell (row : Fin 80) (lane : Fin 128) : S80x128.Idx := fun a =>
  match a with
  | ⟨0, _⟩ => row
  | ⟨1, _⟩ => lane

theorem lift_cell (row : Fin 80) (lane : Fin 128) : Shape.Reduces.lift reduces_S80x128_S128 (klane lane) row = cell row lane := by
  funext a
  match a with
  | ⟨0, _⟩ => rfl
  | ⟨1, _⟩ => rfl

/-- A maximum over a set: at least every entry, and the start or one of the entries. -/
theorem fold_max_mem {ι : Type} (x : ι → EReal) (S : Finset ι) (z : EReal) :
    (∀ s ∈ S, x s ≤ S.fold max z x) ∧ (S.fold max z x = z ∨ ∃ s ∈ S, x s = S.fold max z x) := by
  classical
  induction S using Finset.cons_induction with
  | empty => exact ⟨fun s hs => absurd hs (Finset.notMem_empty s), .inl (Finset.fold_empty)⟩
  | cons a S ha ih =>
    rw [Finset.fold_cons]
    refine ⟨fun s hs => ?_, ?_⟩
    · rcases Finset.mem_cons.mp hs with rfl | hs
      · exact le_max_left _ _
      · exact (ih.1 s hs).trans (le_max_right _ _)
    · rcases max_choice (x a) (S.fold max z x) with h | h
      · exact .inr ⟨a, Finset.mem_cons_self a S, h.symm⟩
      · rcases ih.2 with h' | ⟨s, hs, h'⟩
        · exact .inl (h.trans h')
        · exact .inr ⟨s, Finset.mem_cons_of_mem hs, h'.trans h.symm⟩

/-- A signed minimum over a set: at most every entry, and the start or one of the entries. -/
theorem fold_min_mem {ι : Type} (x : ι → W) (S : Finset ι) (z : W) :
    (∀ s ∈ S, (S.fold IKind.minsi.op z x).toInt ≤ (x s).toInt)
      ∧ (S.fold IKind.minsi.op z x = z ∨ ∃ s ∈ S, x s = S.fold IKind.minsi.op z x) := by
  classical
  have hop : ∀ a b : W, IKind.minsi.op a b = if a.slt b then a else b := fun _ _ => rfl
  induction S using Finset.cons_induction with
  | empty => exact ⟨fun s hs => absurd hs (Finset.notMem_empty s), .inl (Finset.fold_empty)⟩
  | cons a S ha ih =>
    rw [Finset.fold_cons, hop]
    by_cases h : (x a).slt (S.fold IKind.minsi.op z x)
    · rw [if_pos h]
      rw [BitVec.slt_iff_toInt_lt] at h
      refine ⟨fun s hs => ?_, .inr ⟨a, Finset.mem_cons_self a S, rfl⟩⟩
      rcases Finset.mem_cons.mp hs with rfl | hs
      · exact le_rfl
      · exact h.le.trans (ih.1 s hs)
    · rw [if_neg h]
      rw [BitVec.slt_iff_toInt_lt, not_lt] at h
      refine ⟨fun s hs => ?_, ?_⟩
      · rcases Finset.mem_cons.mp hs with rfl | hs
        · exact h
        · exact ih.1 s hs
      · rcases ih.2 with h' | ⟨s, hs, h'⟩
        · exact .inl h'
        · exact .inr ⟨s, Finset.mem_cons_of_mem hs, h'⟩

/-- The largest score of a lane. -/
theorem pay8_at (v : FVec Ideal S80x128 .f32) (lane : Fin 128) :
    (∀ s, v (cell s lane) ≤ k0_pay8 v (kslot lane)) ∧ ∃ s, v (cell s lane) = k0_pay8 v (kslot lane) := by
  have e : k0_pay8 v (kslot lane) = (Finset.univ : Finset (Fin 80)).fold max ⊥ (fun s => v (cell s lane)) := by
    show shapeCast S1x128 (multiReduction (F := Ideal) .maximumf [0] S128 v 0xFF800000#32 reduces_S80x128_S128 (.inl rfl) rfl)
      shapeCasts_S128_S1x128 (kslot lane) = _
    refine (shapeCast_apply _ shapeCasts_S128_S1x128 (kslot lane) (klane lane) (by
      rw [Shape.rowMajor_val_one, Shape.rowMajor_val_two]
      simp [kslot, klane])).trans ?_
    refine (Ideal.multiReduction_maximumf_single v 0xFF800000#32 reduces_S80x128_S128 (.inl rfl) rfl (klane lane)).trans ?_
    have h : (v ∘ Shape.Reduces.lift reduces_S80x128_S128 (klane lane)) = fun s => v (cell s lane) :=
      funext fun s => congrArg v (lift_cell s lane)
    rw [h]
    exact congrArg (fun z => Finset.fold max z (fun s => v (cell s lane)) Finset.univ) neg_inf
  rw [e]
  obtain ⟨h1, h2⟩ := fold_max_mem (fun s => v (cell s lane)) Finset.univ ⊥
  refine ⟨fun s => h1 s (Finset.mem_univ s), ?_⟩
  rcases h2 with h2 | ⟨s, -, h2⟩
  · exact ⟨0, le_antisymm (h1 0 (Finset.mem_univ _)) (by rw [h2]; exact bot_le)⟩
  · exact ⟨s, h2⟩

/-- The numbers the minimum is taken of: a row's own where its score is the largest. -/
def kept (v : FVec Ideal S80x128 .f32) (w : IVec S80x128 32) (lane : Fin 128) (s : Fin 80) : W :=
  if v (cell s lane) = k0_pay8 v (kslot lane) then w (cell s lane) else 2147483647#32

theorem select_eq (x M : EReal) (a b : W) : Scalar.select (Ideal.cmp .oeq x M) a b = if x = M then a else b := by
  by_cases h : x = M <;> simp [Ideal.cmp, Scalar.select, h]

/-- The smallest number of a lane, as a minimum over the rows. -/
theorem pay9_at (v : FVec Ideal S80x128 .f32) (w : IVec S80x128 32) (lane : Fin 128) :
    k0_pay9 v w (kslot lane) = (Finset.univ : Finset (Fin 80)).fold IKind.minsi.op 2147483647#32 (kept v w lane) := by
  classical
  show shapeCast S1x128 (multiReductionI .minsi [0] S128 (select (cmpf (F := Ideal) .oeq v (broadcastTo S80x128 (k0_pay8 v) broadcasts_S1x128_S80x128))
    w (broadcast S80x128 2147483647#32)) 2147483647#32 reduces_S80x128_S128 rfl) shapeCasts_S128_S1x128 (kslot lane) = _
  refine (shapeCast_apply _ shapeCasts_S128_S1x128 (kslot lane) (klane lane) (by
    rw [Shape.rowMajor_val_one, Shape.rowMajor_val_two]
    simp [kslot, klane])).trans ?_
  refine (multiReductionI_eq_fold .minsi _ _ reduces_S80x128_S128 rfl (klane lane)).trans ?_
  refine (Shape.Reduces.fold_filter_drop_single reduces_S80x128_S128 _ _ _ (klane lane)).trans ?_
  refine congrArg (fun g => Finset.fold IKind.minsi.op 2147483647#32 g Finset.univ) (funext fun s => ?_)
  show _ = kept v w lane s
  unfold kept
  rw [← select_eq]
  refine (congrArg (select (cmpf (F := Ideal) .oeq v (broadcastTo S80x128 (k0_pay8 v) broadcasts_S1x128_S80x128)) w
    (broadcast S80x128 2147483647#32)) (lift_cell s lane)).trans ?_
  have hb : broadcastTo S80x128 (k0_pay8 v) broadcasts_S1x128_S80x128 (cell s lane) = k0_pay8 v (kslot lane) :=
    broadcastTo_apply _ _ _ _ fun a => match a with
      | ⟨0, _⟩ => rfl
      | ⟨1, _⟩ => rfl
  rw [← hb]
  rfl

theorem toInt_ofNat (i : ℕ) (hi : i < 100000) : (BitVec.ofNat 32 i).toInt = i := by
  rw [BitVec.toInt_eq_toNat_of_lt (by rw [BitVec.toNat_ofNat]; omega), BitVec.toNat_ofNat, Nat.mod_eq_of_lt (by omega)]

/-- The pair of a lane: if the 80 rows hold the answers over 80 sets of places, it is the answer over all of them. -/
theorem reduced (f : ℕ → EReal) (v : FVec Ideal S80x128 .f32) (w : IVec S80x128 32) (lane : Fin 128)
    (P : Fin 80 → ℕ → Prop) (h : ∀ s, ∃ i, i < 100000 ∧ w (cell s lane) = BitVec.ofNat 32 i ∧ First f (P s) (v (cell s lane)) i) :
    ∃ i, i < 100000 ∧ k0_pay9 v w (kslot lane) = BitVec.ofNat 32 i
      ∧ First f (fun c => ∃ s, P s c) (k0_pay8 v (kslot lane)) i := by
  choose n hn hw hF using h
  obtain ⟨hM, s0, hs0⟩ := pay8_at v lane
  obtain ⟨hle, hat⟩ := fold_min_mem (kept v w lane) Finset.univ 2147483647#32
  rw [← pay9_at] at hle hat
  have hk : ∀ s, v (cell s lane) = k0_pay8 v (kslot lane) → kept v w lane s = BitVec.ofNat 32 (n s) := fun s hs => by
    unfold kept
    rw [if_pos hs, hw]
  have hle' : ∀ s, v (cell s lane) = k0_pay8 v (kslot lane) → (k0_pay9 v w (kslot lane)).toInt ≤ n s := fun s hs => by
    have := hle s (Finset.mem_univ s)
    rwa [hk s hs, toInt_ofNat _ (hn s)] at this
  have big : (2147483647#32 : W).toInt = 2147483647 := by decide
  have hnot : k0_pay9 v w (kslot lane) ≠ 2147483647#32 := fun e => by
    have := hle' s0 hs0
    rw [e, big] at this
    have := hn s0
    omega
  obtain ⟨s1, hs1⟩ : ∃ s, kept v w lane s = k0_pay9 v w (kslot lane) := by
    rcases hat with h | ⟨s, -, h⟩
    · exact absurd h hnot
    · exact ⟨s, h⟩
  have hs1' : v (cell s1 lane) = k0_pay8 v (kslot lane) := by
    by_contra hne
    unfold kept at hs1
    rw [if_neg hne] at hs1
    exact hnot hs1.symm
  have e9 : k0_pay9 v w (kslot lane) = BitVec.ofNat 32 (n s1) := hs1.symm.trans (hk s1 hs1')
  refine ⟨n s1, hn s1, e9, First.parts hF hM ⟨s1, hs1', rfl⟩ fun s hs => ?_⟩
  have := hle' s hs
  rw [e9, toInt_ofNat _ (hn s1)] at this
  omega

end Cert.Sampler

end
-- ==== Proof.Strip.lean ====
/-
  The kernel's loop over a chunk, read at an element.

  Trip `k` of the loop reads 80 rows of the chunk and keeps, at each of the 80 × 128 elements, the
  larger of the running score and the score of the trip's column, with the column's number.  After
  all 125 trips an element holds the answer over every 80th column of the chunk.
-/
module

public import proofs.«01_k».proof.Proof.StripBits
public import proofs.«01_k».proof.Proof.Reduced

@[expose] public section
set_option maxRecDepth 16384
noncomputable section

namespace Cert.Sampler
open Idealize.ShloMosaic Idealize.ShloMosaic.TcCoe Idealize.SL.Sem
open Cert.KernelIdeal Cert.KernelIdeal.Gen

theorem trips_eq : k0_t1_loop.trips = 125 := by decide

theorem trip_lt (k : Fin k0_t1_loop.trips) : k.val < 125 := trips_eq ▸ k.isLt

/-- The row numbers of a strip. -/
abbrev rows : IVec S80x128 32 := iota .tc S80x128 32 [0] (by decide)

/-- The column number of an element in a trip. -/
theorem col_at (j : ℕ) (k : Fin k0_t1_loop.trips) (i : S80x128.Idx) :
    k0_pay14 (BitVec.ofNat 32 j) rows 0#32 1#32 k i = BitVec.ofNat 32 (j * 10000 + k.val * 80 + (i 0).val) := by
  have e : k0_pay14 (BitVec.ofNat 32 j) rows 0#32 1#32 k i
      = (BitVec.ofNat 32 j * 10000#32 + (0#32 + BitVec.ofNat 32 k.val * 1#32) * 80#32) + BitVec.ofNat 32 (0 * 80 + (i 0).val) := rfl
  rw [e]
  apply BitVec.eq_of_toNat_eq
  simp only [BitVec.toNat_add, BitVec.toNat_mul, BitVec.toNat_ofNat]
  omega

/-- The lane's part of the counter. -/
theorem lane_at (i : S80x128.Idx) : k0_pay1 i = BitVec.ofNat 32 ((i 1).val * 100000) := by
  have e : k0_pay1 i = BitVec.ofNat 32 (0 * 128 + (i 1).val) * 100000#32 := rfl
  rw [e]
  apply BitVec.eq_of_toNat_eq
  simp only [BitVec.toNat_mul, BitVec.toNat_ofNat]
  omega

/-- The offset of a trip's rows in the chunk. -/
theorem off_at (k : Fin k0_t1_loop.trips) : k0_off1 k = ![k.val * 80, 0] := by
  have hk := trip_lt k
  have e : k0_off1 k = ![((0#32 + BitVec.ofNat 32 k.val * 1#32) * 80#32 : BitVec 32).toNat, 0] := rfl
  rw [e]
  congr 1
  simp only [BitVec.toNat_add, BitVec.toNat_mul, BitVec.toNat_ofNat]
  omega

/-- A row and a lane of a chunk. -/
def chunkCell (row : Fin 10000) (lane : Fin 128) : S10000x128.Idx := fun a =>
  match a with
  | ⟨0, _⟩ => row
  | ⟨1, _⟩ => lane

/-- The rows a trip reads, at an element. -/
theorem load_at (arg1 : Memref sig .tc .vmem S10000x128 .f32) (harg1 : arg1.IsWhole) (x0 : Vec Ideal S10000x128 .f32)
    (k : Fin k0_t1_loop.trips) (i : S80x128.Idx) (h : k.val * 80 + (i 0).val < 10000) :
    View.readAt (Elt Ideal) arg1.view (Rect.unit (s := S10000x128) (k0_off1 k) S80x128.size (k0_off1_inb k)).toLoadRect (harg1.unread x0) i
      = x0 (chunkCell ⟨k.val * 80 + (i 0).val, h⟩ (i 1)) := by
  rw [View.readAt_apply, Memref.IsWhole.read_unread]
  refine congrArg x0 (funext fun a => Fin.ext ?_)
  match a with
  | ⟨0, _⟩ =>
    show k0_off1 k 0 + 1 * (i 0).val = k.val * 80 + (i 0).val
    rw [off_at, one_mul]
    rfl
  | ⟨1, _⟩ =>
    show k0_off1 k 1 + 1 * (i 1).val = (i 1).val
    rw [off_at, one_mul]
    exact Nat.zero_add _

section
variable (z : EReal) (v200 v201 : FVec Ideal S80x128 .f32) (v204 : Vec Ideal S80x128 .f32) (i : S80x128.Idx)

/-- The score of a trip at an element, from the fraction and the logit there. -/
theorem pay4_at (c : BitVec 32) : k0_pay4 (F := Ideal) v200 v201 v204 i
    = shapeCast S80x128 v204 shapeCasts_S80x128_S80x128 i - Ideal.log (Ideal.ofBits .f32 0x00000000#32 - Ideal.log (max (v201 i) (v200 i))) := rfl

theorem pay4_score (lane col : ℕ) (h200 : v200 i = Ideal.ofBits .f32 (mant (ctr lane col)) - Ideal.ofBits .f32 0x3F800000#32)
    (h201 : v201 i = Ideal.ofBits .f32 0x00800000#32) : k0_pay4 (F := Ideal) v200 v201 v204 i = noisy (v204 i) lane col := by
  rw [pay4_at v200 v201 v204 i 0#32, shapeCast_apply _ shapeCasts_S80x128_S80x128 i i rfl, h200, h201, Ideal.ofBits_zero_f32, zero_sub, max_comm]
  rfl
end

theorem select_gt {α : Type} (x y : EReal) (a b : α) : Scalar.select (Ideal.cmp .ogt x y) a b = if y < x then a else b := by
  by_cases h : y < x <;> simp [Ideal.cmp, Scalar.select, h]

/-- The largest score and the number kept by a trip, at an element. -/
theorem pay6_at (a : FVec Ideal S80x128 .f32) (v200 v201 : FVec Ideal S80x128 .f32) (v204 : Vec Ideal S80x128 .f32) (i : S80x128.Idx) :
    k0_pay6 (F := Ideal) a v200 v201 v204 i
      = if a i < k0_pay4 (F := Ideal) v200 v201 v204 i then k0_pay4 (F := Ideal) v200 v201 v204 i else a i :=
  (select_gt _ _ _ _)

theorem pay7_at (a : FVec Ideal S80x128 .f32) (n w : IVec S80x128 32) (v200 v201 : FVec Ideal S80x128 .f32) (v204 : Vec Ideal S80x128 .f32)
    (i : S80x128.Idx) : k0_pay7 (F := Ideal) a n w v200 v201 v204 i
      = if a i < k0_pay4 (F := Ideal) v200 v201 v204 i then w i else n i :=
  (select_gt _ _ _ _)

variable (c : Dev nD) (bd : Option Variants.none.V) (gi : grid0.Coords) (arg1 : Memref sig .tc .vmem S10000x128 .f32) (harg1 : arg1.IsWhole)
  (arg2 : Memref sig .tc .vmem S1x128 .i32) (harg2 : arg2.IsWhole) (arg3 : Memref sig .tc .vmem S1x128 .f32) (harg3 : arg3.IsWhole)

/-- One trip at an element. -/
theorem trip_at (j : ℕ) (x0 : Vec Ideal S10000x128 .f32) (k : Fin k0_t1_loop.trips)
    (acc : FVec Ideal S80x128 .f32 × IVec S80x128 32) (i : S80x128.Idx) (h : k.val * 80 + (i 0).val < 10000) (s : EReal)
    (hs : s = noisy (x0 (chunkCell ⟨k.val * 80 + (i 0).val, h⟩ (i 1))) (i 1).val (j * 10000 + k.val * 80 + (i 0).val)) :
    (tripR_k0_t1 (F := Ideal) Variants.none c bd gi arg1 harg1 arg2 harg2 arg3 harg3 (BitVec.ofNat 32 j) rows (harg1.unread x0) k acc).1 i
        = (if acc.1 i < s then s else acc.1 i)
    ∧ (tripR_k0_t1 (F := Ideal) Variants.none c bd gi arg1 harg1 arg2 harg2 arg3 harg3 (BitVec.ofNat 32 j) rows (harg1.unread x0) k acc).2 i
        = (if acc.1 i < s then BitVec.ofNat 32 (j * 10000 + k.val * 80 + (i 0).val) else acc.2 i) := by
  have hctr : k0_pay1 i + k0_pay14 (BitVec.ofNat 32 j) rows 0#32 1#32 k i = ctr (i 1).val (j * 10000 + k.val * 80 + (i 0).val) := by
    rw [lane_at, col_at, ← BitVec.ofNat_add]
    rfl
  have hr := strip_frac (BitVec.ofNat 32 j) rows k i _ hctr
  have h4 : k0_pay4 (F := Ideal) (trip_k0_t1.sl.r (F := Ideal) (BitVec.ofNat 32 j) rows k) k0_pay49
      (View.readAt (Elt Ideal) arg1.view (Rect.unit (s := S10000x128) (k0_off1 k) S80x128.size (k0_off1_inb k)).toLoadRect (harg1.unread x0)) i = s := by
    rw [pay4_score _ _ _ i _ _ hr rfl, load_at arg1 harg1 x0 k i h, hs]
  unfold tripR_k0_t1 trip_k0_t1
  dsimp only
  refine ⟨(pay6_at _ _ _ _ i).trans ?_, (pay7_at _ _ _ _ _ _ i).trans ?_⟩
  · rw [h4]
  · rw [h4, ← col_at j k i]
    rfl

/-- The running pairs before trip `n`: at an element, the answer over the columns of the trips so far. -/
theorem trips_at (f : Fin 128 → ℕ → EReal) (j : ℕ) (hj : j < 10) (x0 : Vec Ideal S10000x128 .f32)
    (hx : ∀ (r : Fin 10000) (lane : Fin 128), noisy (x0 (chunkCell r lane)) lane.val (j * 10000 + r.val) = f lane (j * 10000 + r.val))
    (row : Fin 80) (lane : Fin 128) (n : ℕ) (hn : n ≤ 125) :
    ∃ i, i < 100000
      ∧ (st_k0_t1 (F := Ideal) Variants.none c bd gi arg1 harg1 arg2 harg2 arg3 harg3 (BitVec.ofNat 32 j) rows (harg1.unread x0) (k0_pay2, k0_pay3) n).2 (cell row lane)
          = BitVec.ofNat 32 i
      ∧ First (f lane) (fun col => ∃ k, k < n ∧ col = j * 10000 + k * 80 + row.val)
          ((st_k0_t1 (F := Ideal) Variants.none c bd gi arg1 harg1 arg2 harg2 arg3 harg3 (BitVec.ofNat 32 j) rows (harg1.unread x0) (k0_pay2, k0_pay3) n).1 (cell row lane)) i := by
  induction n with
  | zero =>
    refine ⟨0, by omega, by rw [st_k0_t1_zero]; rfl, ?_⟩
    have e : (k0_pay2 (F := Ideal)) (cell row lane) = ⊥ := neg_inf
    rw [st_k0_t1_zero]
    show First (f lane) _ ((k0_pay2 (F := Ideal)) (cell row lane)) 0
    rw [e]
    exact First.empty.congr fun col => ⟨False.elim, fun ⟨k, hk, _⟩ => absurd hk (Nat.not_lt_zero k)⟩
  | succ n ih =>
    obtain ⟨i, hi, hw, hF⟩ := ih (by omega)
    have hrow := row.isLt
    have hb : n * 80 + row.val < 10000 := by omega
    obtain ⟨h1, h2⟩ := trip_at c bd gi arg1 harg1 arg2 harg2 arg3 harg3 j x0 ⟨n, trips_eq ▸ (by omega : n < 125)⟩
      (st_k0_t1 (F := Ideal) Variants.none c bd gi arg1 harg1 arg2 harg2 arg3 harg3 (BitVec.ofNat 32 j) rows (harg1.unread x0) (k0_pay2, k0_pay3) n)
      (cell row lane) hb (f lane (j * 10000 + n * 80 + row.val)) (by
        have := hx ⟨n * 80 + row.val, hb⟩ lane
        rw [← Nat.add_assoc] at this
        exact this.symm)
    rw [hw] at h2
    change _ = if _ then BitVec.ofNat 32 (j * 10000 + n * 80 + row.val) else _ at h2
    have hnext := hF.next (c := j * 10000 + n * 80 + row.val) (fun d ⟨k, hk, hd⟩ => by omega)
    rw [st_k0_t1_succ Variants.none c bd gi arg1 harg1 arg2 harg2 arg3 harg3 (BitVec.ofNat 32 j) rows (harg1.unread x0) (k0_pay2, k0_pay3)
      ⟨n, trips_eq ▸ (by omega : n < 125)⟩, h1, h2]
    refine ⟨_, ?_, (apply_ite (BitVec.ofNat 32) _ _ _).symm, hnext.congr fun col => ?_⟩
    · split <;> omega
    · constructor
      · rintro (⟨k, hk, rfl⟩ | rfl)
        · exact ⟨k, by omega, rfl⟩
        · exact ⟨n, by omega, rfl⟩
      · rintro ⟨k, hk, rfl⟩
        rcases Nat.lt_succ_iff_lt_or_eq.mp hk with hk | rfl
        · exact .inl ⟨k, hk, rfl⟩
        · exact .inr rfl

/-- The pair a chunk leaves on a lane: the answer over the columns of the chunk. -/
theorem chunk_at (f : Fin 128 → ℕ → EReal) (j : ℕ) (hj : j < 10) (x0 : Vec Ideal S10000x128 .f32)
    (hx : ∀ (r : Fin 10000) (lane : Fin 128), noisy (x0 (chunkCell r lane)) lane.val (j * 10000 + r.val) = f lane (j * 10000 + r.val))
    (lane : Fin 128) (S : FVec Ideal S80x128 .f32 × IVec S80x128 32)
    (hS : S = st_k0_t1 (F := Ideal) Variants.none c bd gi arg1 harg1 arg2 harg2 arg3 harg3 (BitVec.ofNat 32 j) rows (harg1.unread x0) (k0_pay2, k0_pay3) 125) :
    ∃ i, i < 100000 ∧ k0_pay9 S.1 S.2 (kslot lane) = BitVec.ofNat 32 i
      ∧ First (f lane) (fun col => j * 10000 ≤ col ∧ col < (j + 1) * 10000) (k0_pay8 S.1 (kslot lane)) i := by
  subst hS
  obtain ⟨i, hi, h1, h2⟩ := reduced (f lane) _ _ lane (fun row col => ∃ k, k < 125 ∧ col = j * 10000 + k * 80 + row.val)
    fun row => trips_at c bd gi arg1 harg1 arg2 harg2 arg3 harg3 f j hj x0 hx row lane 125 le_rfl
  refine ⟨i, hi, h1, h2.congr fun col => ⟨?_, fun ⟨hlo, hhi⟩ => ?_⟩⟩
  · rintro ⟨row, k, hk, rfl⟩
    have := row.isLt
    omega
  · exact ⟨⟨(col - j * 10000) % 80, Nat.mod_lt _ (by decide)⟩, (col - j * 10000) / 80, by omega, by simp only; omega⟩

end Cert.Sampler

end
-- ==== Proof.Chunk.lean ====
/-
  The kernel's ten chunks, one after the other.

  After a chunk the scratch row holds the largest score so far and the output row its column: the pair
  is the answer over the columns of the chunks so far (`points_at`), and after the tenth over all of
  them (`kernel_first`).
-/
module

public import proofs.«01_k».proof.Proof.Strip
public import Idealize.ShloMosaic.Lib.Claim

@[expose] public section
set_option maxRecDepth 16384
noncomputable section

namespace Cert.Sampler
open Idealize.ShloMosaic Idealize.ShloMosaic.TcCoe Idealize.SL.Sem
open Cert.KernelIdeal Cert.KernelIdeal.Gen Cert.KernelIdeal.Value

theorem zero_off : (![0, 0] : Fin S1x128.rank → Nat) = fun _ => 0 := funext fun a => by fin_cases a <;> rfl

/-- A row read whole. -/
theorem row_read {e : EltTy} (mr : Memref sig .tc .vmem S1x128 e) (h : mr.IsWhole) (x : Vec Ideal S1x128 e) :
    View.readAt (Elt Ideal) mr.view (Rect.unit (s := S1x128) ![0, 0] S1x128.size inb_S1x128_S1x128_0_0).toLoadRect (h.unread x) = x := by
  rw [View.readAt_eq_ld, h.read_unread, View.ld_unit_zero zero_off]

section
variable (c : Dev nD) (gi : grid0.Coords) (arg1 : Memref sig .tc .vmem S10000x128 .f32) (harg1 : arg1.IsWhole)
  (arg2 : Memref sig .tc .vmem S1x128 .i32) (harg2 : arg2.IsWhole) (arg3 : Memref sig .tc .vmem S1x128 .f32) (harg3 : arg3.IsWhole)
  (x0 : Vec Ideal S10000x128 .f32)

/-- The running pairs after the last trip. -/
abbrev lastPairs : FVec Ideal S80x128 .f32 × IVec S80x128 32 :=
  st_k0_t1 (F := Ideal) Variants.none c none gi arg1 harg1 arg2 harg2 arg3 harg3 (BitVec.ofNat 32 (gi 0).val) rows (harg1.unread x0) (k0_pay2, k0_pay3) 125

theorem outA_eq (hc0 : cond0_0 gi) (hc1 : ¬cond0_1 gi) : out0_A_1 (F := Ideal) c gi arg1 harg1 arg2 harg2 arg3 harg3 hc0 hc1 x0
    = k0_pay9 (lastPairs c gi arg1 harg1 arg2 harg2 arg3 harg3 x0).1 (lastPairs c gi arg1 harg1 arg2 harg2 arg3 harg3 x0).2 := by
  refine (View.read_writes_eq_canon _ _ _ (cover0_A_1 c gi arg1 harg1 arg2 harg2 arg3 harg3 hc0 hc1 x0)).trans ?_
  unfold kernelRun0_A
  dsimp only
  exact View.canon_unit_zero (Val := Elt Ideal) (S := S1x128) zero_off _ _

theorem soutA_eq (hc0 : cond0_0 gi) (hc1 : ¬cond0_1 gi) : sout0_A_0 (F := Ideal) c gi arg1 harg1 arg2 harg2 arg3 harg3 hc0 hc1 x0
    = k0_pay10 (lastPairs c gi arg1 harg1 arg2 harg2 arg3 harg3 x0).1 := by
  refine (View.read_writes_eq_canon _ _ _ (scover0_A_0 c gi arg1 harg1 arg2 harg2 arg3 harg3 hc0 hc1 x0)).trans ?_
  unfold kernelRun0_A
  dsimp only
  exact View.canon_unit_zero (Val := Elt Ideal) (S := S1x128) zero_off _ _

variable (xo1 : Vec Ideal S1x128 .i32) (xs0 : Vec Ideal S1x128 .f32)

theorem outB_eq (hc0 : ¬cond0_0 gi) (hc1 : cond0_1 gi) : out0_B_1 (F := Ideal) c gi arg1 harg1 arg2 harg2 arg3 harg3 hc0 hc1 x0 xo1 xs0
    = k0_pay13 (lastPairs c gi arg1 harg1 arg2 harg2 arg3 harg3 x0).1 (lastPairs c gi arg1 harg1 arg2 harg2 arg3 harg3 x0).2 xs0 xo1 := by
  refine (View.read_writes_eq_canon _ _ _ (cover0_B_1 c gi arg1 harg1 arg2 harg2 arg3 harg3 hc0 hc1 x0 xo1 xs0)).trans ?_
  unfold kernelRun0_B
  dsimp only
  refine (View.canon_unit_zero (Val := Elt Ideal) (S := S1x128) zero_off _ _).trans ?_
  exact congrArg₂ (k0_pay13 _ _) (row_read arg3 harg3 xs0) (row_read arg2 harg2 xo1)

theorem soutB_eq (hc0 : ¬cond0_0 gi) (hc1 : cond0_1 gi) : sout0_B_0 (F := Ideal) c gi arg1 harg1 arg2 harg2 arg3 harg3 hc0 hc1 x0 xo1 xs0
    = k0_pay12 (lastPairs c gi arg1 harg1 arg2 harg2 arg3 harg3 x0).1 xs0 := by
  refine (View.read_writes_eq_canon _ _ _ (scover0_B_0 c gi arg1 harg1 arg2 harg2 arg3 harg3 hc0 hc1 x0 xo1 xs0)).trans ?_
  unfold kernelRun0_B
  dsimp only
  refine (View.canon_unit_zero (Val := Elt Ideal) (S := S1x128) zero_off _ _).trans ?_
  exact congrArg (k0_pay12 _) (row_read arg3 harg3 xs0)

end

section
variable (v : FVec Ideal S80x128 .f32) (w : IVec S80x128 32) (b : Vec Ideal S1x128 .f32) (n : Vec Ideal S1x128 .i32) (i : S1x128.Idx)

theorem pay10_at : k0_pay10 (F := Ideal) v i = k0_pay8 v i := by
  unfold k0_pay10
  exact shapeCast_apply _ shapeCasts_S1x128_S1x128 i i rfl

theorem pay12_at : k0_pay12 (F := Ideal) v b i = if b i < k0_pay8 v i then k0_pay8 v i else b i := by
  unfold k0_pay12
  exact (shapeCast_apply _ shapeCasts_S1x128_S1x128 i i rfl).trans (select_gt _ _ _ _)

theorem pay13_at : k0_pay13 (F := Ideal) v w b n i = if b i < k0_pay8 v i then k0_pay9 v w i else n i := by
  unfold k0_pay13
  refine (select_gt (k0_pay8 v i) (b i) (k0_pay9 v w i) _).trans ?_
  rw [shapeCast_apply n shapeCasts_S1x128_S1x128 i i rfl]
end

variable (m : (ℓ : Loc nD τ sig) → Buf (Elt Ideal) ℓ) (c : Dev nD)

/-- The block of the logits a point reads: rows of the transposed logits. -/
theorem index_at : ∀ t : Fin cfg0.N, win0_0.index t (0 : Fin 2) = t.val ∧ win0_0.index t (1 : Fin 2) = 0 :=
  (by decide +kernel : ∀ t : Fin grid0.N, _)

theorem turned : V m c main_v0 = transpose S100000x128 [1, 0] (m ((c : Thread nD τ).loc main_arg0)) transposes_S128x100000_S100000x128_1_0 := by
  entry_read
  rfl

theorem block_at (t : Fin cfg0.N) (r : Fin 10000) (lane : Fin 128) (h : t.val * 10000 + r.val < 100000) :
    iblk m c 0 t (chunkCell r lane) = m ((c : Thread nD τ).loc main_arg0) (place lane ⟨t.val * 10000 + r.val, h⟩) := by
  obtain ⟨e0, e1⟩ := index_at t
  show V m c main_v0 (((cfg0.win 0).blk t).view.emb (chunkCell r lane)) = _
  rw [turned]
  refine transpose_apply _ _ _ _ _ fun b => ?_
  match b with
  | ⟨0, _⟩ =>
    show t.val * 10000 + r.val = win0_0.index t (0 : Fin 2) * 10000 + 1 * r.val
    omega
  | ⟨1, _⟩ =>
    show lane.val = win0_0.index t (1 : Fin 2) * 128 + 1 * lane.val
    omega

/-- The coordinate of a point is its number. -/
theorem coord_at (t : Fin cfg0.N) : (grid0.coords t 0).val = t.val := by
  have h : t.val < 10 := lt_of_lt_of_eq t.isLt N_0
  refine (Pipeline.Grid.coords_val t 0 (by decide) rfl : (grid0.coords t 0).val = t.val / 1 % 10).trans ?_
  omega

/-- What a point's chunk leaves on a lane. -/
theorem point_at (t : Fin cfg0.N) (lane : Fin 128) (arg1 : Memref sig .tc .vmem S10000x128 .f32) (harg1 : arg1.IsWhole)
    (arg2 : Memref sig .tc .vmem S1x128 .i32) (harg2 : arg2.IsWhole) (arg3 : Memref sig .tc .vmem S1x128 .f32) (harg3 : arg3.IsWhole)
    (S : FVec Ideal S80x128 .f32 × IVec S80x128 32) (hS : S = lastPairs c (grid0.coords t) arg1 harg1 arg2 harg2 arg3 harg3 (iblk m c 0 t)) :
    ∃ i, i < 100000 ∧ k0_pay9 S.1 S.2 (kslot lane) = BitVec.ofNat 32 i
      ∧ First (score (m ((c : Thread nD τ).loc main_arg0)) lane) (fun col => t.val * 10000 ≤ col ∧ col < (t.val + 1) * 10000) (k0_pay8 S.1 (kslot lane)) i := by
  have ht : t.val < 10 := lt_of_lt_of_eq t.isLt N_0
  refine chunk_at c none (grid0.coords t) arg1 harg1 arg2 harg2 arg3 harg3 (score (m ((c : Thread nD τ).loc main_arg0))) t.val ht (iblk m c 0 t)
    (fun r l => ?_) lane S ?_
  · have h : t.val * 10000 + r.val < 100000 := by have := r.isLt; omega
    rw [score_place _ _ _ h, block_at m c t r l h]
  · rw [hS]
    unfold lastPairs
    rw [coord_at]

/-- After point `n`: on each lane the output row and the scratch row hold the answer over the columns so far. -/
theorem points_at (lane : Fin 128) (n : ℕ) (hn : n < cfg0.N) :
    ∃ i, i < 100000 ∧ (outsAt0 m c n hn).1 (kslot lane) = BitVec.ofNat 32 i
      ∧ First (score (m ((c : Thread nD τ).loc main_arg0)) lane) (fun col => col < (n + 1) * 10000) ((outsAt0 m c n hn).2 (kslot lane)) i := by
  induction n with
  | zero =>
    rw [outsAt0_zero, stAt0_A m c ⟨0, hn⟩ _ (Nat.zero_mod _) (by show ¬ 1 ≤ 0; decide)]
    dsimp only
    rw [outA_eq, soutA_eq, pay10_at]
    obtain ⟨i, hi, h1, h2⟩ := point_at m c ⟨0, hn⟩ lane _ (hs0_0 ⟨0, hn⟩) _ (hs0_1 ⟨0, hn⟩) scM0_0 (Memref.isWhole_whole _) _ rfl
    exact ⟨i, hi, h1, h2.congr fun col => by simp⟩
  | succ n ih =>
    have hN : n + 1 < 10 := lt_of_lt_of_eq hn N_0
    obtain ⟨i, hi, h1, h2⟩ := ih (Nat.lt_of_succ_lt hn)
    obtain ⟨i', hi', h1', h2'⟩ := point_at m c ⟨n + 1, hn⟩ lane _ (hs0_0 ⟨n + 1, hn⟩) _ (hs0_1 ⟨n + 1, hn⟩) scM0_0 (Memref.isWhole_whole _) _ rfl
    have hl := h2.later h2' (fun a d ha hd => by dsimp only at hd; omega)
    rw [outsAt0_succ, stAt0_B m c ⟨n + 1, hn⟩ _ (by dsimp only; omega) (by dsimp only; omega)]
    dsimp only
    rw [outB_eq, soutB_eq, pay12_at, pay13_at, h1]
    refine ⟨_, ?_, ?_, hl.congr fun col => ?_⟩
    · split <;> assumption
    · refine Eq.trans ?_ (apply_ite (BitVec.ofNat 32) _ _ _).symm
      exact if_congr Iff.rfl h1' rfl
    · dsimp only
      omega

/-- The kernel's result holds on each lane the first column with the largest score. -/
theorem kernel_first : ∃ v : Vec Ideal S1x128 .i32, G1 m c = v ∧ ∀ lane : Fin 128, ∃ (b : EReal) (i : ℕ), v (kslot lane) = BitVec.ofNat 32 i
    ∧ First (score (m ((c : Thread nD τ).loc main_arg0)) lane) (fun col => col < 100000) b i := by
  have h9 : 9 < cfg0.N := lt_of_lt_of_eq (by decide) N_0.symm
  refine ⟨(outsAt0 m c 9 h9).1, (G1_last m c).trans (congrArg Prod.fst (outsAt0_sweep m c 9 h9).symm), fun lane => ?_⟩
  obtain ⟨i, _, h1, h2⟩ := points_at m c lane 9 h9
  exact ⟨_, i, h1, h2⟩

end Cert.Sampler

end
-- ==== Proof.RefOps.lean ====
/-
  The reference's host program as a line of operations, read at single buffers.

  The program is 288 operations, the k-th of which writes the device buffer of index k + 1.  So what
  a buffer holds at the end is its one writer's function of what the operands hold at the end:
  `rd_nullary`, `rd_unary`, `rd_binary` and their companions state that, one lemma for each shape of
  operation, with the position in the line as an argument.
-/
module

public import proofs.«01_k».proof.Proof.Words
public import proofs.«01_k».proof.Proof.Gen.ReferenceIdeal
public import Idealize.ShloMosaic.Lib.StableHlo.RunRead
public import Idealize.ShloMosaic.Lib.StableHlo.RunHlo
public import Idealize.ShloMosaic.Lib.Claim
public import Idealize.ShloMosaic.Lib.Quiescent

@[expose] public section
set_option maxRecDepth 65536
noncomputable section

namespace Cert.Sampler
open Idealize.ShloMosaic Idealize.ShloMosaic.TcCoe Idealize.SL.Sem Idealize.ShloMosaic.StableHlo
open Cert.ReferenceIdeal Cert.ReferenceIdeal.Gen

/-- A list of operations with the proof that a program runs them. -/
def packSeq {p : Dev nD → Prog (TpuEff nD τ sig (Elt Ideal) (Pipeline.Sig Λ₀ (Fin 0) fun q => (pcfgs (F := Ideal) q).Adm) .tc) PUnit}
    {ops : List (HloOp τ sig (Elt Ideal))} (h : ∀ d, IsSeq (p d) ops) :
    { ops : List (HloOp τ sig (Elt Ideal)) // ∀ d, IsSeq (p d) ops } := ⟨ops, h⟩

set_option maxHeartbeats 4000000 in
/-- The reference's host program as a list of its operations. -/
def refSeq : { ops : List (HloOp τ sig (Elt Ideal)) // ∀ d : Dev nD, StableHlo.IsSeq (main (F := Ideal) d) ops } := by
  apply packSeq
  hlo_seq

/-- The operations alone. -/
abbrev refOps : List (HloOp τ sig (Elt Ideal)) := refSeq.1

/-- A buffer's index in its space. -/
abbrev pos (r : Ref sig .tc) : ℕ := r.idx.val

/-- The operations write, one after the other, buffers of consecutive indices. -/
def InOrder : List (HloOp τ sig (Elt Ideal)) → ℕ → Prop
  | [], _ => True
  | op :: ops, n => (∃ r : Ref sig .tc, op.writes = {Proc.devRef (τ := τ) .tc r} ∧ pos r = n) ∧ InOrder ops (n + 1)

theorem InOrder.cons {op : HloOp τ sig (Elt Ideal)} {ops : List (HloOp τ sig (Elt Ideal))} {n : ℕ} (r : Ref sig .tc)
    (h : op.writes = {Proc.devRef (τ := τ) .tc r}) (hp : pos r = n) (ht : InOrder ops (n + 1)) : InOrder (op :: ops) n :=
  ⟨⟨r, h, hp⟩, ht⟩

theorem InOrder.drop {ops : List (HloOp τ sig (Elt Ideal))} {n : ℕ} (h : InOrder ops n) (i : ℕ) : InOrder (ops.drop i) (n + i) := by
  induction i generalizing ops n with
  | zero => exact h
  | succ i ih =>
    cases ops with
    | nil => trivial
    | cons op ops =>
      have := ih h.2
      rw [show n + (i + 1) = n + 1 + i by omega]
      exact this

/-- A buffer below every index written keeps its contents. -/
theorem InOrder.keep {ops : List (HloOp τ sig (Elt Ideal))} {n : ℕ} (h : InOrder ops n) (r : Ref sig .tc) (hr : pos r < n)
    (V : Valuation τ sig (Elt Ideal)) : after ops V (Proc.devRef .tc r) = V (Proc.devRef .tc r) := by
  induction ops generalizing n V with
  | nil => rfl
  | cons op ops ih =>
    obtain ⟨⟨w, hw, hp⟩, ht⟩ := h
    rw [after_cons, ih ht (by omega), op.result_of_not_mem V]
    rw [hw, Finset.mem_singleton]
    intro he
    have := Proc.devRef_injective _ he
    subst this
    omega

set_option maxHeartbeats 4000000 in
theorem refOps_inOrder : InOrder refOps 1 := by
  unfold refOps refSeq
  repeat (refine InOrder.cons _ rfl rfl ?_)
  trivial

theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

section
variable (V : Valuation τ sig (Elt Ideal))

/-- What a buffer holds after the whole line. -/
def fin (r : Ref sig .tc) : r.ty.Contents (Elt Ideal) := after refOps V (Proc.devRef .tc r)

/-- What the line leaves in the buffer that operation `i` writes. -/
theorem fin_at {i : ℕ} {op : HloOp τ sig (Elt Ideal)} (h : refOps[i]? = some op) (r : Ref sig .tc) (hr : pos r = i + 1) :
    fin V r = op.result (after (refOps.take i) V) (Proc.devRef .tc r) := by
  have hlt : i < refOps.length := (List.getElem?_eq_some_iff.mp h).1
  have hd : refOps.drop i = op :: refOps.drop (i + 1) := by
    rw [List.drop_eq_getElem_cons hlt, (List.getElem?_eq_some_iff.mp h).2]
  have hs : after refOps V = after (refOps.drop i) (after (refOps.take i) V) := by
    rw [← after_app, List.take_append_drop]
  unfold fin
  rw [hs, hd, after_cons, (refOps_inOrder.drop (i + 1)).keep r (by omega)]

/-- A buffer already written when operation `i` runs holds its last contents. -/
theorem fin_before (i : ℕ) (r : Ref sig .tc) (hr : pos r ≤ i) :
    after (refOps.take i) V (Proc.devRef .tc r) = fin V r := by
  have hs : after refOps V = after (refOps.drop i) (after (refOps.take i) V) := by
    rw [← after_app, List.take_append_drop]
  unfold fin
  rw [hs, (refOps_inOrder.drop i).keep r (by omega)]

/-- The same at the value's type. -/
def rd {T : BufTy} (t : TRef sig T) : T.Contents (Elt Ideal) := t.ofBuf (fin V t.ref)

variable {T Ta Tb Tc Td Ty : BufTy}

theorem ofBuf_toBuf' (t : TRef sig T) (v : T.Contents (Elt Ideal)) : t.ofBuf (t.toBuf v) = v := by
  simp only [TRef.ofBuf, TRef.toBuf, cast_cast, cast_eq]

theorem rd_nullary (i : ℕ) (y : TRef sig Ty) (v : Ty.Contents (Elt Ideal))
    (h : refOps[i]? = some (TRef.nullary y v)) (hy : pos y.ref = i + 1) : rd V y = v := by
  unfold rd
  rw [fin_at V h y.ref hy, nullary_result', ofBuf_toBuf']

theorem rd_unary (i : ℕ) (x : TRef sig Ta) (y : TRef sig Ty) (f : Ta.Contents (Elt Ideal) → Ty.Contents (Elt Ideal))
    (h : refOps[i]? = some (TRef.unary x y f)) (hy : pos y.ref = i + 1) (hx : pos x.ref ≤ i) : rd V y = f (rd V x) := by
  unfold rd
  rw [fin_at V h y.ref hy, unary_result', fin_before V i x.ref hx, ofBuf_toBuf']

theorem rd_reshape (i : ℕ) (x : TRef sig Ta) (y : TRef sig Ty) (he : Ta.elt = Ty.elt) (hn : Ta.shape.ShapeCasts Ty.shape)
    (h : refOps[i]? = some (TRef.reshape x y he hn)) (hy : pos y.ref = i + 1) (hx : pos x.ref ≤ i) :
    rd V y = fun k => he ▸ shapeCast Ty.shape (rd V x) hn k := by
  obtain ⟨x, rfl, x1, x2⟩ := x
  obtain ⟨y, rfl, y1, y2⟩ := y
  unfold rd
  rw [fin_at V h y hy, reshape_result', fin_before V i x hx]
  rfl

theorem rd_binary (i : ℕ) (a : TRef sig Ta) (b : TRef sig Tb) (y : TRef sig Ty)
    (f : Ta.Contents (Elt Ideal) → Tb.Contents (Elt Ideal) → Ty.Contents (Elt Ideal))
    (h : refOps[i]? = some (TRef.binary a b y f)) (hy : pos y.ref = i + 1) (ha : pos a.ref ≤ i) (hb : pos b.ref ≤ i) :
    rd V y = f (rd V a) (rd V b) := by
  unfold rd
  rw [fin_at V h y.ref hy, binary_result', fin_before V i a.ref ha, fin_before V i b.ref hb, ofBuf_toBuf']

theorem rd_quaternary (i : ℕ) (a : TRef sig Ta) (b : TRef sig Tb) (c : TRef sig Tc) (d : TRef sig Td) (y : TRef sig Ty)
    (f : Ta.Contents (Elt Ideal) → Tb.Contents (Elt Ideal) → Tc.Contents (Elt Ideal) → Td.Contents (Elt Ideal) → Ty.Contents (Elt Ideal))
    (h : refOps[i]? = some (TRef.quaternary a b c d y f)) (hy : pos y.ref = i + 1) (ha : pos a.ref ≤ i) (hb : pos b.ref ≤ i)
    (hc : pos c.ref ≤ i) (hd : pos d.ref ≤ i) :
    rd V y = f (rd V a) (rd V b) (rd V c) (rd V d) := by
  unfold rd
  rw [fin_at V h y.ref hy, quaternary_result', fin_before V i a.ref ha, fin_before V i b.ref hb, fin_before V i c.ref hc,
    fin_before V i d.ref hd, ofBuf_toBuf']

/-- A literal spread over the whole shape, at an element. -/
theorem rd_lit (i : ℕ) (c : TRef sig ⟨S_, .i32⟩) (y : TRef sig ⟨S128x100000, .i32⟩) (n : W)
    (h : refOps[i]? = some (TRef.nullary c (constantI S_ 32 n)))
    (h' : refOps[i + 1]? = some (TRef.unary c y (broadcastInDim S128x100000 ![] bcast_S_S128x100000)))
    (hc : pos c.ref = i + 1) (hy : pos y.ref = i + 2) (j : S128x100000.Idx) : rd V y j = n := by
  rw [rd_unary V (i + 1) c y _ h' hy (by omega), rd_nullary V i c _ h hc]
  rfl

/-- Nine operations of the line are one mixing round, at an element. -/
theorem rd_round (i : ℕ) (a b : W) (ha : a.toNat < 32) (hb : b.toNat < 32)
    (s x t v w v' w' o y : TRef sig ⟨S128x100000, .i32⟩) (c c' : TRef sig ⟨S_, .i32⟩)
    (h0 : refOps[i]? = some (TRef.binary s x t addi))
    (h1 : refOps[i + 1]? = some (TRef.nullary c (constantI S_ 32 a)))
    (h2 : refOps[i + 1 + 1]? = some (TRef.unary c v (broadcastInDim S128x100000 ![] bcast_S_S128x100000)))
    (h3 : refOps[i + 3]? = some (TRef.binary x v w Host.shli))
    (h4 : refOps[i + 4]? = some (TRef.nullary c' (constantI S_ 32 b)))
    (h5 : refOps[i + 4 + 1]? = some (TRef.unary c' v' (broadcastInDim S128x100000 ![] bcast_S_S128x100000)))
    (h6 : refOps[i + 6]? = some (TRef.binary x v' w' Host.shrui))
    (h7 : refOps[i + 7]? = some (TRef.binary w w' o ori))
    (h8 : refOps[i + 8]? = some (TRef.binary t o y xori))
    (ps : pos s.ref ≤ i ∧ pos x.ref ≤ i ∧ pos t.ref = i + 1 ∧ pos c.ref = i + 2 ∧ pos v.ref = i + 3 ∧ pos w.ref = i + 4
      ∧ pos c'.ref = i + 5 ∧ pos v'.ref = i + 6 ∧ pos w'.ref = i + 7 ∧ pos o.ref = i + 8 ∧ pos y.ref = i + 9)
    (j : S128x100000.Idx) (p : W × W) (hs : rd V s j = p.1) (hx : rd V x j = p.2) :
    rd V t j = (mix a b p).1 ∧ rd V y j = (mix a b p).2 := by
  obtain ⟨p0, p1, p2, p3, p4, p5, p6, p7, p8, p9, p10⟩ := ps
  have ht : rd V t j = p.1 + p.2 := by
    rw [rd_binary V i s x t _ h0 p2 p0 p1, ← hs, ← hx]; rfl
  have hv := rd_lit V (i + 1) c v a h1 h2 p3 p4 j
  have hv' := rd_lit V (i + 4) c' v' b h4 h5 p6 p7 j
  have hw : rd V w j = p.2 <<< a := by
    rw [rd_binary V (i + 3) x v w _ h3 p5 (by omega) (by omega)]
    show IntOp.shli .host (rd V x j) (rd V v j) = _
    rw [hx, hv]
    exact if_pos ha
  have hw' : rd V w' j = p.2 >>> b := by
    rw [rd_binary V (i + 6) x v' w' _ h6 p8 (by omega) (by omega)]
    show IntOp.shrui .host (rd V x j) (rd V v' j) = _
    rw [hx, hv']
    exact if_pos hb
  have ho : rd V o j = p.2 <<< a ||| p.2 >>> b := by
    rw [rd_binary V (i + 7) w w' o _ h7 p9 (by omega) (by omega), ← hw, ← hw']; rfl
  refine ⟨ht, ?_⟩
  rw [rd_binary V (i + 8) t o y _ h8 p10 (by omega) (by omega)]
  show rd V t j ^^^ rd V o j = _
  rw [ht, ho]
  rfl

/-- Seven operations of the line are one addition of key words, at an element. -/
theorem rd_inj (i : ℕ) (kw lw n : W) (k l c : TRef sig ⟨S_, .i32⟩) (x y kb x' lb y₁ nb y' : TRef sig ⟨S128x100000, .i32⟩)
    (h0 : refOps[i]? = some (TRef.unary k kb (broadcastInDim S128x100000 ![] bcast_S_S128x100000)))
    (h1 : refOps[i + 1]? = some (TRef.binary x kb x' addi))
    (h2 : refOps[i + 2]? = some (TRef.unary l lb (broadcastInDim S128x100000 ![] bcast_S_S128x100000)))
    (h3 : refOps[i + 3]? = some (TRef.binary y lb y₁ addi))
    (h4 : refOps[i + 4]? = some (TRef.nullary c (constantI S_ 32 n)))
    (h5 : refOps[i + 4 + 1]? = some (TRef.unary c nb (broadcastInDim S128x100000 ![] bcast_S_S128x100000)))
    (h6 : refOps[i + 6]? = some (TRef.binary y₁ nb y' addi))
    (ps : pos x.ref ≤ i ∧ pos y.ref ≤ i ∧ pos k.ref ≤ i ∧ pos l.ref ≤ i ∧ pos kb.ref = i + 1 ∧ pos x'.ref = i + 2
      ∧ pos lb.ref = i + 3 ∧ pos y₁.ref = i + 4 ∧ pos c.ref = i + 5 ∧ pos nb.ref = i + 6 ∧ pos y'.ref = i + 7)
    (hk : rd V k = fun _ => kw) (hl : rd V l = fun _ => lw)
    (j : S128x100000.Idx) (p : W × W) (hx : rd V x j = p.1) (hy : rd V y j = p.2) :
    rd V x' j = (inj kw (lw + n) p).1 ∧ rd V y' j = (inj kw (lw + n) p).2 := by
  obtain ⟨p0, p1, p2, p3, p4, p5, p6, p7, p8, p9, p10⟩ := ps
  have hkb : rd V kb j = kw := by
    rw [rd_unary V i k kb _ h0 p4 p2, hk]; rfl
  have hlb : rd V lb j = lw := by
    rw [rd_unary V (i + 2) l lb _ h2 p6 (by omega), hl]; rfl
  have hnb := rd_lit V (i + 4) c nb n h4 h5 p8 p9 j
  have hy₁ : rd V y₁ j = p.2 + lw := by
    rw [rd_binary V (i + 3) y lb y₁ _ h3 p7 (by omega) (by omega), ← hy, ← hlb]; rfl
  constructor
  · rw [rd_binary V (i + 1) x kb x' _ h1 p5 (by omega) (by omega)]
    show rd V x j + rd V kb j = p.1 + kw
    rw [hx, hkb]
  · rw [rd_binary V (i + 6) y₁ nb y' _ h6 p10 (by omega) (by omega)]
    show rd V y₁ j + rd V nb j = p.2 + (lw + n)
    rw [hy₁, hnb, BitVec.add_assoc]

end

end Cert.Sampler

end
-- ==== Proof.RefBits.lean ====
/-
  The random words of the reference.

  The reference's generator call, read at one element: twenty rounds and five key additions in the
  printed order, each by the lemma of its shape, from the counter words to the random word.
-/
module

public import proofs.«01_k».proof.Proof.RefOps

@[expose] public section
set_option maxRecDepth 65536
noncomputable section

namespace Cert.Sampler
open Idealize.ShloMosaic Idealize.ShloMosaic.TcCoe Idealize.SL.Sem Idealize.ShloMosaic.StableHlo
open Cert.ReferenceIdeal Cert.ReferenceIdeal.Gen

variable (V : Valuation τ sig (Elt Ideal)) (j : S128x100000.Idx)

/-- Group 1 of the reference's schedule, at an element. -/
theorem ref_group1 (hk0 : rd V main_call0.v5 = fun _ => 0#32) (hk1 : rd V main_call0.v7 = fun _ => 42#32)
    (hk2 : rd V main_call0_call0.v1 = fun _ => 466689008#32) (p : W × W)
    (h0 : rd V main_call0_call0.v3 j = p.1) (h1 : rd V main_call0_call0.v5 j = p.2) :
    rd V main_call0_call0.v35 j = (inj 42#32 (466689008#32 + 1#32) (quadA p)).1
      ∧ rd V main_call0_call0.v39 j = (inj 42#32 (466689008#32 + 1#32) (quadA p)).2 := by
  have r0 := rd_round V 41 13#32 19#32 (by decide) (by decide)
    main_call0_call0.v3 main_call0_call0.v5 main_call0_call0.v6 main_call0_call0.v7 main_call0_call0.v8
    main_call0_call0.v9 main_call0_call0.v10 main_call0_call0.v11 main_call0_call0.v12 main_call0_call0.c_0 main_call0_call0.c_1
    rfl rfl rfl rfl rfl rfl rfl rfl rfl (by decide) j _ h0 h1
  have r1 := rd_round V 50 15#32 17#32 (by decide) (by decide)
    main_call0_call0.v6 main_call0_call0.v12 main_call0_call0.v13 main_call0_call0.v14 main_call0_call0.v15
    main_call0_call0.v16 main_call0_call0.v17 main_call0_call0.v18 main_call0_call0.v19 main_call0_call0.c_2 main_call0_call0.c_3
    rfl rfl rfl rfl rfl rfl rfl rfl rfl (by decide) j _ r0.1 r0.2
  have r2 := rd_round V 59 26#32 6#32 (by decide) (by decide)
    main_call0_call0.v13 main_call0_call0.v19 main_call0_call0.v20 main_call0_call0.v21 main_call0_call0.v22
    main_call0_call0.v23 main_call0_call0.v24 main_call0_call0.v25 main_call0_call0.v26 main_call0_call0.c_4 main_call0_call0.c_5
    rfl rfl rfl rfl rfl rfl rfl rfl rfl (by decide) j _ r1.1 r1.2
  have r3 := rd_round V 68 6#32 26#32 (by decide) (by decide)
    main_call0_call0.v20 main_call0_call0.v26 main_call0_call0.v27 main_call0_call0.v28 main_call0_call0.v29
    main_call0_call0.v30 main_call0_call0.v31 main_call0_call0.v32 main_call0_call0.v33 main_call0_call0.c_6 main_call0_call0.c_7
    rfl rfl rfl rfl rfl rfl rfl rfl rfl (by decide) j _ r2.1 r2.2
  exact rd_inj V 77 42#32 466689008#32 1#32 main_call0.v7 main_call0_call0.v1 main_call0_call0.c_8
    main_call0_call0.v27 main_call0_call0.v33 main_call0_call0.v34 main_call0_call0.v35
    main_call0_call0.v36 main_call0_call0.v37 main_call0_call0.v38 main_call0_call0.v39
    rfl rfl rfl rfl rfl rfl rfl (by decide) hk1 hk2 j _ r3.1 r3.2

/-- Group 2 of the reference's schedule, at an element. -/
theorem ref_group2 (hk0 : rd V main_call0.v5 = fun _ => 0#32) (hk1 : rd V main_call0.v7 = fun _ => 42#32)
    (hk2 : rd V main_call0_call0.v1 = fun _ => 466689008#32) (p : W × W)
    (h0 : rd V main_call0_call0.v35 j = p.1) (h1 : rd V main_call0_call0.v39 j = p.2) :
    rd V main_call0_call0.v69 j = (inj 466689008#32 (0#32 + 2#32) (quadB p)).1
      ∧ rd V main_call0_call0.v73 j = (inj 466689008#32 (0#32 + 2#32) (quadB p)).2 := by
  have r0 := rd_round V 84 17#32 15#32 (by decide) (by decide)
    main_call0_call0.v35 main_call0_call0.v39 main_call0_call0.v40 main_call0_call0.v41 main_call0_call0.v42
    main_call0_call0.v43 main_call0_call0.v44 main_call0_call0.v45 main_call0_call0.v46 main_call0_call0.c_9 main_call0_call0.c_10
    rfl rfl rfl rfl rfl rfl rfl rfl rfl (by decide) j _ h0 h1
  have r1 := rd_round V 93 29#32 3#32 (by decide) (by decide)
    main_call0_call0.v40 main_call0_call0.v46 main_call0_call0.v47 main_call0_call0.v48 main_call0_call0.v49
    main_call0_call0.v50 main_call0_call0.v51 main_call0_call0.v52 main_call0_call0.v53 main_call0_call0.c_11 main_call0_call0.c_12
    rfl rfl rfl rfl rfl rfl rfl rfl rfl (by decide) j _ r0.1 r0.2
  have r2 := rd_round V 102 16#32 16#32 (by decide) (by decide)
    main_call0_call0.v47 main_call0_call0.v53 main_call0_call0.v54 main_call0_call0.v55 main_call0_call0.v56
    main_call0_call0.v57 main_call0_call0.v58 main_call0_call0.v59 main_call0_call0.v60 main_call0_call0.c_13 main_call0_call0.c_14
    rfl rfl rfl rfl rfl rfl rfl rfl rfl (by decide) j _ r1.1 r1.2
  have r3 := rd_round V 111 24#32 8#32 (by decide) (by decide)
    main_call0_call0.v54 main_call0_call0.v60 main_call0_call0.v61 main_call0_call0.v62 main_call0_call0.v63
    main_call0_call0.v64 main_call0_call0.v65 main_call0_call0.v66 main_call0_call0.v67 main_call0_call0.c_15 main_call0_call0.c_16
    rfl rfl rfl rfl rfl rfl rfl rfl rfl (by decide) j _ r2.1 r2.2
  exact rd_inj V 120 466689008#32 0#32 2#32 main_call0_call0.v1 main_call0.v5 main_call0_call0.c_17
    main_call0_call0.v61 main_call0_call0.v67 main_call0_call0.v68 main_call0_call0.v69
    main_call0_call0.v70 main_call0_call0.v71 main_call0_call0.v72 main_call0_call0.v73
    rfl rfl rfl rfl rfl rfl rfl (by decide) hk2 hk0 j _ r3.1 r3.2

/-- Group 3 of the reference's schedule, at an element. -/
theorem ref_group3 (hk0 : rd V main_call0.v5 = fun _ => 0#32) (hk1 : rd V main_call0.v7 = fun _ => 42#32)
    (hk2 : rd V main_call0_call0.v1 = fun _ => 466689008#32) (p : W × W)
    (h0 : rd V main_call0_call0.v69 j = p.1) (h1 : rd V main_call0_call0.v73 j = p.2) :
    rd V main_call0_call0.v103 j = (inj 0#32 (42#32 + 3#32) (quadA p)).1
      ∧ rd V main_call0_call0.v107 j = (inj 0#32 (42#32 + 3#32) (quadA p)).2 := by
  have r0 := rd_round V 127 13#32 19#32 (by decide) (by decide)
    main_call0_call0.v69 main_call0_call0.v73 main_call0_call0.v74 main_call0_call0.v75 main_call0_call0.v76
    main_call0_call0.v77 main_call0_call0.v78 main_call0_call0.v79 main_call0_call0.v80 main_call0_call0.c_18 main_call0_call0.c_19
    rfl rfl rfl rfl rfl rfl rfl rfl rfl (by decide) j _ h0 h1
  have r1 := rd_round V 136 15#32 17#32 (by decide) (by decide)
    main_call0_call0.v74 main_call0_call0.v80 main_call0_call0.v81 main_call0_call0.v82 main_call0_call0.v83
    main_call0_call0.v84 main_call0_call0.v85 main_call0_call0.v86 main_call0_call0.v87 main_call0_call0.c_20 main_call0_call0.c_21
    rfl rfl rfl rfl rfl rfl rfl rfl rfl (by decide) j _ r0.1 r0.2
  have r2 := rd_round V 145 26#32 6#32 (by decide) (by decide)
    main_call0_call0.v81 main_call0_call0.v87 main_call0_call0.v88 main_call0_call0.v89 main_call0_call0.v90
    main_call0_call0.v91 main_call0_call0.v92 main_call0_call0.v93 main_call0_call0.v94 main_call0_call0.c_22 main_call0_call0.c_23
    rfl rfl rfl rfl rfl rfl rfl rfl rfl (by decide) j _ r1.1 r1.2
  have r3 := rd_round V 154 6#32 26#32 (by decide) (by decide)
    main_call0_call0.v88 main_call0_call0.v94 main_call0_call0.v95 main_call0_call0.v96 main_call0_call0.v97
    main_call0_call0.v98 main_call0_call0.v99 main_call0_call0.v100 main_call0_call0.v101 main_call0_call0.c_24 main_call0_call0.c_25
    rfl rfl rfl rfl rfl rfl rfl rfl rfl (by decide) j _ r2.1 r2.2
  exact rd_inj V 163 0#32 42#32 3#32 main_call0.v5 main_call0.v7 main_call0_call0.c_26
    main_call0_call0.v95 main_call0_call0.v101 main_call0_call0.v102 main_call0_call0.v103
    main_call0_call0.v104 main_call0_call0.v105 main_call0_call0.v106 main_call0_call0.v107
    rfl rfl rfl rfl rfl rfl rfl (by decide) hk0 hk1 j _ r3.1 r3.2

/-- Group 4 of the reference's schedule, at an element. -/
theorem ref_group4 (hk0 : rd V main_call0.v5 = fun _ => 0#32) (hk1 : rd V main_call0.v7 = fun _ => 42#32)
    (hk2 : rd V main_call0_call0.v1 = fun _ => 466689008#32) (p : W × W)
    (h0 : rd V main_call0_call0.v103 j = p.1) (h1 : rd V main_call0_call0.v107 j = p.2) :
    rd V main_call0_call0.v137 j = (inj 42#32 (466689008#32 + 4#32) (quadB p)).1
      ∧ rd V main_call0_call0.v141 j = (inj 42#32 (466689008#32 + 4#32) (quadB p)).2 := by
  have r0 := rd_round V 170 17#32 15#32 (by decide) (by decide)
    main_call0_call0.v103 main_call0_call0.v107 main_call0_call0.v108 main_call0_call0.v109 main_call0_call0.v110
    main_call0_call0.v111 main_call0_call0.v112 main_call0_call0.v113 main_call0_call0.v114 main_call0_call0.c_27 main_call0_call0.c_28
    rfl rfl rfl rfl rfl rfl rfl rfl rfl (by decide) j _ h0 h1
  have r1 := rd_round V 179 29#32 3#32 (by decide) (by decide)
    main_call0_call0.v108 main_call0_call0.v114 main_call0_call0.v115 main_call0_call0.v116 main_call0_call0.v117
    main_call0_call0.v118 main_call0_call0.v119 main_call0_call0.v120 main_call0_call0.v121 main_call0_call0.c_29 main_call0_call0.c_30
    rfl rfl rfl rfl rfl rfl rfl rfl rfl (by decide) j _ r0.1 r0.2
  have r2 := rd_round V 188 16#32 16#32 (by decide) (by decide)
    main_call0_call0.v115 main_call0_call0.v121 main_call0_call0.v122 main_call0_call0.v123 main_call0_call0.v124
    main_call0_call0.v125 main_call0_call0.v126 main_call0_call0.v127 main_call0_call0.v128 main_call0_call0.c_31 main_call0_call0.c_32
    rfl rfl rfl rfl rfl rfl rfl rfl rfl (by decide) j _ r1.1 r1.2
  have r3 := rd_round V 197 24#32 8#32 (by decide) (by decide)
    main_call0_call0.v122 main_call0_call0.v128 main_call0_call0.v129 main_call0_call0.v130 main_call0_call0.v131
    main_call0_call0.v132 main_call0_call0.v133 main_call0_call0.v134 main_call0_call0.v135 main_call0_call0.c_33 main_call0_call0.c_34
    rfl rfl rfl rfl rfl rfl rfl rfl rfl (by decide) j _ r2.1 r2.2
  exact rd_inj V 206 42#32 466689008#32 4#32 main_call0.v7 main_call0_call0.v1 main_call0_call0.c_35
    main_call0_call0.v129 main_call0_call0.v135 main_call0_call0.v136 main_call0_call0.v137
    main_call0_call0.v138 main_call0_call0.v139 main_call0_call0.v140 main_call0_call0.v141
    rfl rfl rfl rfl rfl rfl rfl (by decide) hk1 hk2 j _ r3.1 r3.2

/-- Group 5 of the reference's schedule, at an element. -/
theorem ref_group5 (hk0 : rd V main_call0.v5 = fun _ => 0#32) (hk1 : rd V main_call0.v7 = fun _ => 42#32)
    (hk2 : rd V main_call0_call0.v1 = fun _ => 466689008#32) (p : W × W)
    (h0 : rd V main_call0_call0.v137 j = p.1) (h1 : rd V main_call0_call0.v141 j = p.2) :
    rd V main_call0_call0.v171 j = (inj 466689008#32 (0#32 + 5#32) (quadA p)).1
      ∧ rd V main_call0_call0.v175 j = (inj 466689008#32 (0#32 + 5#32) (quadA p)).2 := by
  have r0 := rd_round V 213 13#32 19#32 (by decide) (by decide)
    main_call0_call0.v137 main_call0_call0.v141 main_call0_call0.v142 main_call0_call0.v143 main_call0_call0.v144
    main_call0_call0.v145 main_call0_call0.v146 main_call0_call0.v147 main_call0_call0.v148 main_call0_call0.c_36 main_call0_call0.c_37
    rfl rfl rfl rfl rfl rfl rfl rfl rfl (by decide) j _ h0 h1
  have r1 := rd_round V 222 15#32 17#32 (by decide) (by decide)
    main_call0_call0.v142 main_call0_call0.v148 main_call0_call0.v149 main_call0_call0.v150 main_call0_call0.v151
    main_call0_call0.v152 main_call0_call0.v153 main_call0_call0.v154 main_call0_call0.v155 main_call0_call0.c_38 main_call0_call0.c_39
    rfl rfl rfl rfl rfl rfl rfl rfl rfl (by decide) j _ r0.1 r0.2
  have r2 := rd_round V 231 26#32 6#32 (by decide) (by decide)
    main_call0_call0.v149 main_call0_call0.v155 main_call0_call0.v156 main_call0_call0.v157 main_call0_call0.v158
    main_call0_call0.v159 main_call0_call0.v160 main_call0_call0.v161 main_call0_call0.v162 main_call0_call0.c_40 main_call0_call0.c_41
    rfl rfl rfl rfl rfl rfl rfl rfl rfl (by decide) j _ r1.1 r1.2
  have r3 := rd_round V 240 6#32 26#32 (by decide) (by decide)
    main_call0_call0.v156 main_call0_call0.v162 main_call0_call0.v163 main_call0_call0.v164 main_call0_call0.v165
    main_call0_call0.v166 main_call0_call0.v167 main_call0_call0.v168 main_call0_call0.v169 main_call0_call0.c_42 main_call0_call0.c_43
    rfl rfl rfl rfl rfl rfl rfl rfl rfl (by decide) j _ r2.1 r2.2
  exact rd_inj V 249 466689008#32 0#32 5#32 main_call0_call0.v1 main_call0.v5 main_call0_call0.c_44
    main_call0_call0.v163 main_call0_call0.v169 main_call0_call0.v170 main_call0_call0.v171
    main_call0_call0.v172 main_call0_call0.v173 main_call0_call0.v174 main_call0_call0.v175
    rfl rfl rfl rfl rfl rfl rfl (by decide) hk2 hk0 j _ r3.1 r3.2

/-- The random words of the reference at an element whose counter words are `0` and `x`. -/
theorem ref_stages (hk0 : rd V main_call0.v5 = fun _ => 0#32) (hk1 : rd V main_call0.v7 = fun _ => 42#32)
    (hk2 : rd V main_call0_call0.v1 = fun _ => 466689008#32) (x : W)
    (h0 : rd V main_call0_call0.v3 j = (start x).1) (h1 : rd V main_call0_call0.v5 j = (start x).2) :
    rd V main_call0_call0.v171 j = (stage5 x).1 ∧ rd V main_call0_call0.v175 j = (stage5 x).2 := by
  have g1 := ref_group1 V j hk0 hk1 hk2 (start x) h0 h1
  have g2 := ref_group2 V j hk0 hk1 hk2 (stage1 x) g1.1 g1.2
  have g3 := ref_group3 V j hk0 hk1 hk2 (stage2 x) g2.1 g2.2
  have g4 := ref_group4 V j hk0 hk1 hk2 (stage3 x) g3.1 g3.2
  exact ref_group5 V j hk0 hk1 hk2 (stage4 x) g4.1 g4.2

end Cert.Sampler

end
-- ==== Proof.RefValue.lean ====
/-
  What the reference computes at an element, before the search for the largest.

  The key words are `0` and `42`, the counter words of an element are `0` and its flat index, and the
  float operations after the generator are the logit with its noise, `noisy`.
-/
module

public import proofs.«01_k».proof.Proof.RefBits
public import Idealize.ShloMosaic.Lib.IdealHost

@[expose] public section
set_option maxRecDepth 65536
noncomputable section

namespace Cert.Sampler
open Idealize.ShloMosaic Idealize.ShloMosaic.TcCoe Idealize.SL.Sem Idealize.ShloMosaic.StableHlo
open Cert.ReferenceIdeal Cert.ReferenceIdeal.Gen

variable (V : Valuation τ sig (Elt Ideal))

/-- The upper key word. -/
theorem ref_hi : rd V (.of main_v2 : TRef sig ⟨S1, .i32⟩) = fun _ => 0#32 := by
  rw [rd_unary V 4 (.of main_v1 : TRef sig ⟨S_, .i32⟩) (.of main_v2 : TRef sig ⟨S1, .i32⟩) (broadcastInDim S1 ![] bcast_S_S1) rfl rfl (by decide),
    rd_unary V 3 (.of main_v0 : TRef sig ⟨S_, .i32⟩) (.of main_v1 : TRef sig ⟨S_, .i32⟩) id rfl rfl (by decide),
    rd_binary V 2 (.of main_c : TRef sig ⟨S_, .i32⟩) (.of main_c_0 : TRef sig ⟨S_, .i32⟩) (.of main_v0 : TRef sig ⟨S_, .i32⟩) Host.shrui rfl rfl (by decide) (by decide),
    rd_nullary V 0 (.of main_c : TRef sig ⟨S_, .i32⟩) (constantI S_ 32 42#32) rfl rfl,
    rd_nullary V 1 (.of main_c_0 : TRef sig ⟨S_, .i32⟩) (constantI S_ 32 32#32) rfl rfl]
  rfl

/-- The lower key word. -/
theorem ref_lo : rd V (.of main_v5 : TRef sig ⟨S1, .i32⟩) = fun _ => 42#32 := by
  rw [rd_unary V 8 (.of main_v4 : TRef sig ⟨S_, .i32⟩) (.of main_v5 : TRef sig ⟨S1, .i32⟩) (broadcastInDim S1 ![] bcast_S_S1) rfl rfl (by decide),
    rd_unary V 7 (.of main_v3 : TRef sig ⟨S_, .i32⟩) (.of main_v4 : TRef sig ⟨S_, .i32⟩) id rfl rfl (by decide),
    rd_binary V 6 (.of main_c : TRef sig ⟨S_, .i32⟩) (.of main_c_1 : TRef sig ⟨S_, .i32⟩) (.of main_v3 : TRef sig ⟨S_, .i32⟩) andi rfl rfl (by decide) (by decide),
    rd_nullary V 0 (.of main_c : TRef sig ⟨S_, .i32⟩) (constantI S_ 32 42#32) rfl rfl,
    rd_nullary V 5 (.of main_c_1 : TRef sig ⟨S_, .i32⟩) (constantI S_ 32 4294967295#32) rfl rfl]
  funext _
  exact (by decide : 42#32 &&& 4294967295#32 = 42#32)

/-- The key array. -/
theorem ref_key : rd V (.of main_v6 : TRef sig ⟨S2, .i32⟩)
    = concatenate S2 0 [⟨S1, fun _ => 0#32⟩, ⟨S1, fun _ => 42#32⟩] concatenates_S1_S1_S2_d0 := by
  rw [rd_binary V 9 (.of main_v2 : TRef sig ⟨S1, .i32⟩) (.of main_v5 : TRef sig ⟨S1, .i32⟩) (.of main_v6 : TRef sig ⟨S2, .i32⟩)
      (fun a b => concatenate S2 0 [⟨S1, a⟩, ⟨S1, b⟩] concatenates_S1_S1_S2_d0) rfl rfl (by decide) (by decide), ref_hi, ref_lo]

theorem ref_k0 : rd V main_call0.v5 = fun _ => 0#32 := by
  rw [rd_reshape V 17 main_call0.v4 main_call0.v5 (rfl : (.i32 : EltTy) = .i32) shapeCasts_S1_S_ rfl rfl (by decide),
    rd_unary V 16 (.of main_v6 : TRef sig ⟨S2, .i32⟩) main_call0.v4 (extractStridedSlice S1 ![0] · slices_S2_S1_0) rfl rfl (by decide), ref_key]
  funext k
  revert k
  decide

theorem ref_k1 : rd V main_call0.v7 = fun _ => 42#32 := by
  rw [rd_reshape V 19 main_call0.v6 main_call0.v7 (rfl : (.i32 : EltTy) = .i32) shapeCasts_S1_S_ rfl rfl (by decide),
    rd_unary V 18 (.of main_v6 : TRef sig ⟨S2, .i32⟩) main_call0.v6 (extractStridedSlice S1 ![1] · slices_S2_S1_1) rfl rfl (by decide), ref_key]
  funext k
  revert k
  decide

theorem ref_k2 : rd V main_call0_call0.v1 = fun _ => 466689008#32 := by
  rw [rd_binary V 36 main_call0_call0.v0 main_call0_call0.c main_call0_call0.v1 xori rfl rfl (by decide) (by decide),
    rd_nullary V 35 main_call0_call0.c (constantI S_ 32 466688986#32) rfl rfl,
    rd_binary V 34 main_call0.v5 main_call0.v7 main_call0_call0.v0 xori rfl rfl (by decide) (by decide), ref_k0, ref_k1]
  funext _
  exact (by decide : (0#32 ^^^ 42#32) ^^^ 466688986#32 = 466689008#32)

/-- The flat index of an element, as the reference counts it. -/
theorem ref_flat (j : S128x100000.Idx) : rd V main_call0.v14 j = BitVec.ofNat 64 ((j 0).val * 100000 + (j 1).val) := by
  rw [rd_binary V 28 main_call0.v11 main_call0.v13 main_call0.v14 addi rfl rfl (by decide) (by decide),
    rd_binary V 24 main_call0.v10 main_call0.v8 main_call0.v11 muli rfl rfl (by decide) (by decide),
    rd_unary V 23 main_call0.c main_call0.v10 (broadcastInDim S128x100000 ![] bcast_S_S128x100000) rfl rfl (by decide),
    rd_nullary V 22 main_call0.c (constantI S_ 64 100000#64) rfl rfl,
    rd_nullary V 20 main_call0.v8 (iotaInDim S128x100000 64 0) rfl rfl,
    rd_binary V 27 main_call0.v12 main_call0.v9 main_call0.v13 muli rfl rfl (by decide) (by decide),
    rd_unary V 26 main_call0.c_0 main_call0.v12 (broadcastInDim S128x100000 ![] bcast_S_S128x100000) rfl rfl (by decide),
    rd_nullary V 25 main_call0.c_0 (constantI S_ 64 1#64) rfl rfl,
    rd_nullary V 21 main_call0.v9 (iotaInDim S128x100000 64 1) rfl rfl]
  show 100000#64 * BitVec.ofNat 64 (j 0).val + 1#64 * BitVec.ofNat 64 (j 1).val = _
  apply BitVec.eq_of_toNat_eq
  have h0 : (j 0).val < 128 := (j 0).isLt
  have h1 : (j 1).val < 100000 := (j 1).isLt
  simp only [BitVec.toNat_add, BitVec.toNat_mul, BitVec.toNat_ofNat]
  omega

/-- The counter words. -/
theorem ref_ctr_hi (j : S128x100000.Idx) : rd V main_call0.v18 j = 0#32 := by
  rw [rd_unary V 33 main_call0.v16 main_call0.v18 (trunci 32 · natLt_32_64) rfl rfl (by decide),
    rd_binary V 31 main_call0.v14 main_call0.v15 main_call0.v16 Host.shrui rfl rfl (by decide) (by decide),
    rd_unary V 30 main_call0.c_1 main_call0.v15 (broadcastInDim S128x100000 ![] bcast_S_S128x100000) rfl rfl (by decide),
    rd_nullary V 29 main_call0.c_1 (constantI S_ 64 32#64) rfl rfl]
  show BitVec.setWidth 32 (IntOp.shrui .host (rd V main_call0.v14 j) 32#64) = 0#32
  rw [ref_flat]
  unfold IntOp.shrui
  rw [if_pos (by decide)]
  apply BitVec.eq_of_toNat_eq
  have h0 : (j 0).val < 128 := (j 0).isLt
  have h1 : (j 1).val < 100000 := (j 1).isLt
  have h32 : (32#64).toNat = 32 := rfl
  simp only [BitVec.toNat_setWidth, BitVec.ushiftRight_eq', BitVec.toNat_ushiftRight, BitVec.toNat_ofNat, h32, Nat.shiftRight_eq_div_pow, Nat.reducePow]
  have hx : (j 0).val * 100000 + (j 1).val < 4294967296 := by omega
  generalize (j 0).val * 100000 + (j 1).val = x at hx ⊢
  omega

theorem ref_ctr_lo (j : S128x100000.Idx) : rd V main_call0.v17 j = ctr (j 0).val (j 1).val := by
  rw [rd_unary V 32 main_call0.v14 main_call0.v17 (trunci 32 · natLt_32_64) rfl rfl (by decide)]
  show BitVec.setWidth 32 (rd V main_call0.v14 j) = _
  rw [ref_flat]
  apply BitVec.eq_of_toNat_eq
  unfold ctr
  simp only [BitVec.toNat_setWidth, BitVec.toNat_ofNat]
  omega

/-- The random word's two halves at an element. -/
theorem ref_pair (j : S128x100000.Idx) :
    rd V main_call0_call0.v171 j = (stage5 (ctr (j 0).val (j 1).val)).1
      ∧ rd V main_call0_call0.v175 j = (stage5 (ctr (j 0).val (j 1).val)).2 := by
  refine ref_stages V j (ref_k0 V) (ref_k1 V) (ref_k2 V) _ ?_ ?_
  · rw [rd_binary V 38 main_call0.v18 main_call0_call0.v2 main_call0_call0.v3 addi rfl rfl (by decide) (by decide),
      rd_unary V 37 main_call0.v5 main_call0_call0.v2 (broadcastInDim S128x100000 ![] bcast_S_S128x100000) rfl rfl (by decide), ref_k0]
    show rd V main_call0.v18 j + 0#32 = 0#32
    rw [ref_ctr_hi]
    rfl
  · rw [rd_binary V 40 main_call0.v17 main_call0_call0.v4 main_call0_call0.v5 addi rfl rfl (by decide) (by decide),
      rd_unary V 39 main_call0.v7 main_call0_call0.v4 (broadcastInDim S128x100000 ![] bcast_S_S128x100000) rfl rfl (by decide), ref_k1]
    show rd V main_call0.v17 j + 42#32 = _
    rw [ref_ctr_lo]
    rfl

/-- The word the fraction is made of. -/
theorem ref_mant (j : S128x100000.Idx) : rd V main_call0.v24 j = mant (ctr (j 0).val (j 1).val) := by
  have h21 := rd_lit V 257 main_call0.c_2 main_call0.v21 9#32 rfl rfl rfl rfl j
  have h23 := rd_lit V 260 main_call0.c_3 main_call0.v23 1065353216#32 rfl rfl rfl rfl j
  rw [rd_binary V 262 main_call0.v22 main_call0.v23 main_call0.v24 ori rfl rfl (by decide) (by decide),
    rd_binary V 259 main_call0.v20 main_call0.v21 main_call0.v22 Host.shrui rfl rfl (by decide) (by decide),
    rd_binary V 256 main_call0_call0.v171 main_call0_call0.v175 main_call0.v20 xori rfl rfl (by decide) (by decide)]
  show IntOp.shrui .host (rd V main_call0_call0.v171 j ^^^ rd V main_call0_call0.v175 j) (rd V main_call0.v21 j) ||| rd V main_call0.v23 j = _
  rw [h21, h23, (ref_pair V j).1, (ref_pair V j).2]
  unfold IntOp.shrui
  rw [if_pos (by decide)]
  rfl

section
variable {s t : Shape}

theorem constant_at (n : BitVec 32) : constant (F := Ideal) s .f32 n = fun _ => Ideal.ofBits .f32 n := rfl
theorem spread_const (dims : Fin s.rank → Fin t.rank) (h : s.BroadcastsInDim t dims) (z : EReal) :
    broadcastInDim t dims h (fun _ : s.Idx => z) = fun _ => z := rfl
theorem subf_at (x y : FVec Ideal s .f32) (j : s.Idx) : subf (F := Ideal) x y j = x j - y j := rfl
theorem addf_at (x y : FVec Ideal s .f32) (j : s.Idx) : addf (F := Ideal) x y j = x j + y j := rfl
theorem mulf_at (x y : FVec Ideal s .f32) (j : s.Idx) : mulf (F := Ideal) x y j = x j * y j := rfl
theorem maximumf_at (x y : FVec Ideal s .f32) (j : s.Idx) : maximumf (F := Ideal) x y j = max (x j) (y j) := rfl
theorem bitcast_at (x : IVec s 32) (j : s.Idx) : bitcastToFloat (F := Ideal) .f32 x j = Ideal.ofBits .f32 (x j) := rfl
theorem negf_at (x : FVec Ideal s .f32) (j : s.Idx) : Host.negf (F := Ideal) x j = -(x j) := rfl
theorem log_at (x : FVec Ideal s .f32) (j : s.Idx) : Host.log (F := Ideal) x j = Ideal.log (x j) := rfl
end

/-- A float literal spread over the whole shape. -/
theorem rd_flit (i : ℕ) (c : TRef sig ⟨S_, .f32⟩) (y : TRef sig ⟨S128x100000, .f32⟩) (n : BitVec 32)
    (h : refOps[i]? = some (TRef.nullary c (constant (F := Ideal) S_ .f32 n)))
    (h' : refOps[i + 1]? = some (TRef.unary c y (broadcastInDim S128x100000 ![] bcast_S_S128x100000)))
    (hc : pos c.ref = i + 1) (hy : pos y.ref = i + 2) : rd V y = fun _ => Ideal.ofBits .f32 n := by
  rw [rd_unary V (i + 1) c y _ h' hy (by omega), rd_nullary V i c _ h hc, constant_at, spread_const]

/-- The lower bound the generator is called with. -/
theorem ref_min : rd V main_call0.v2 = fun _ => Ideal.ofBits .f32 0x00000000#32 := by
  rw [rd_unary V 14 main_call0.v0 main_call0.v2 (broadcastInDim S1x1 ![] bcast_S_S1x1) rfl rfl (by decide),
    rd_unary V 12 (.of main_cst : TRef sig ⟨S_, .f32⟩) main_call0.v0 id rfl rfl (by decide),
    rd_nullary V 10 (.of main_cst : TRef sig ⟨S_, .f32⟩) (constant (F := Ideal) S_ .f32 0x00000000#32) rfl rfl,
    constant_at, id_eq, spread_const]

/-- The upper bound the generator is called with. -/
theorem ref_max : rd V main_call0.v3 = fun _ => Ideal.ofBits .f32 0x3F800000#32 := by
  rw [rd_unary V 15 main_call0.v1 main_call0.v3 (broadcastInDim S1x1 ![] bcast_S_S1x1) rfl rfl (by decide),
    rd_unary V 13 (.of main_cst_2 : TRef sig ⟨S_, .f32⟩) main_call0.v1 id rfl rfl (by decide),
    rd_nullary V 11 (.of main_cst_2 : TRef sig ⟨S_, .f32⟩) (constant (F := Ideal) S_ .f32 0x3F800000#32) rfl rfl,
    constant_at, id_eq, spread_const]

theorem ref_width (j : S1x1.Idx) : rd V main_call0.v28 j = Ideal.ofBits .f32 0x3F800000#32 - Ideal.ofBits .f32 0x00000000#32 := by
  rw [rd_binary V 267 main_call0.v3 main_call0.v2 main_call0.v28 (subf (F := Ideal)) rfl rfl (by decide) (by decide), subf_at, ref_min, ref_max]

theorem ref_width_spread (j : S128x100000.Idx) :
    rd V main_call0.v29 j = Ideal.ofBits .f32 0x3F800000#32 - Ideal.ofBits .f32 0x00000000#32 := by
  rw [rd_unary V 268 main_call0.v28 main_call0.v29 (broadcastInDim S128x100000 ![0, 1] bcast_S1x1_S128x100000_0_1) rfl rfl (by decide),
    funext (ref_width V), spread_const]

theorem ref_min_spread (j : S128x100000.Idx) : rd V main_call0.v31 j = Ideal.ofBits .f32 0x00000000#32 := by
  rw [rd_unary V 270 main_call0.v2 main_call0.v31 (broadcastInDim S128x100000 ![0, 1] bcast_S1x1_S128x100000_0_1) rfl rfl (by decide),
    ref_min, spread_const]

theorem ref_min_spread' (j : S128x100000.Idx) : rd V main_call0.v33 j = Ideal.ofBits .f32 0x00000000#32 := by
  rw [rd_unary V 272 main_call0.v2 main_call0.v33 (broadcastInDim S128x100000 ![0, 1] bcast_S1x1_S128x100000_0_1) rfl rfl (by decide),
    ref_min, spread_const]

/-- The fraction at an element. -/
theorem ref_frac (j : S128x100000.Idx) : rd V main_call0.v27 j
    = Ideal.ofBits .f32 (mant (ctr (j 0).val (j 1).val)) - Ideal.ofBits .f32 0x3F800000#32 := by
  rw [rd_binary V 266 main_call0.v25 main_call0.v26 main_call0.v27 (subf (F := Ideal)) rfl rfl (by decide) (by decide), subf_at,
    rd_flit V 264 main_call0.cst main_call0.v26 0x3F800000#32 rfl rfl rfl rfl,
    rd_unary V 263 main_call0.v24 main_call0.v25 (bitcastToFloat (F := Ideal) .f32) rfl rfl (by decide), bitcast_at, ref_mant]

/-- The fraction, as the uniform generator returns it: at least `0`. -/
theorem ref_uniform (j : S128x100000.Idx) : rd V (.of main_v7 : TRef sig ⟨S128x100000, .f32⟩) j
    = max 0 (Ideal.ofBits .f32 (mant (ctr (j 0).val (j 1).val)) - Ideal.ofBits .f32 0x3F800000#32) := by
  rw [rd_binary V 273 main_call0.v33 main_call0.v32 (.of main_v7 : TRef sig ⟨S128x100000, .f32⟩) (maximumf (F := Ideal)) rfl rfl (by decide) (by decide),
    maximumf_at, ref_min_spread',
    rd_binary V 271 main_call0.v30 main_call0.v31 main_call0.v32 (addf (F := Ideal)) rfl rfl (by decide) (by decide), addf_at, ref_min_spread,
    rd_binary V 269 main_call0.v27 main_call0.v29 main_call0.v30 (mulf (F := Ideal)) rfl rfl (by decide) (by decide), mulf_at, ref_frac,
    ref_width_spread, Ideal.ofBits_zero_f32]
  generalize Ideal.ofBits .f32 (mant (ctr (j 0).val (j 1).val)) - Ideal.ofBits .f32 0x3F800000#32 = z
  rw [Ideal.ofBits_one_f32, sub_zero, mul_one, add_zero]

theorem tiny_nonneg : (0 : EReal) ≤ Ideal.ofBits .f32 0x00800000#32 := by
  simp [Ideal.ofBits, Ideal.ieee]
  exact mul_nonneg (EReal.coe_nonneg.mpr (by norm_num)) (EReal.coe_nonneg.mpr (inv_nonneg.mpr (pow_nonneg two_pos.le _)))

/-- The uniform draw at an element. -/
theorem ref_unif (j : S128x100000.Idx) : rd V (.of main_v9 : TRef sig ⟨S128x100000, .f32⟩) j = unif (j 0).val (j 1).val := by
  rw [rd_binary V 276 (.of main_v7 : TRef sig ⟨S128x100000, .f32⟩) (.of main_v8 : TRef sig ⟨S128x100000, .f32⟩) (.of main_v9 : TRef sig ⟨S128x100000, .f32⟩) (maximumf (F := Ideal)) rfl rfl (by decide) (by decide),
    maximumf_at, ref_uniform,
    rd_flit V 274 (.of main_cst_3 : TRef sig ⟨S_, .f32⟩) (.of main_v8 : TRef sig ⟨S128x100000, .f32⟩) 0x00800000#32 rfl rfl rfl rfl]
  unfold unif
  rw [max_comm (0 : EReal), max_assoc, max_eq_right tiny_nonneg]

/-- The logit with its noise, at an element. -/
theorem ref_noisy (j : S128x100000.Idx) : rd V (.of main_v14 : TRef sig ⟨S128x100000, .f32⟩) j
    = noisy (rd V (.of main_arg0 : TRef sig ⟨S128x100000, .f32⟩) j) (j 0).val (j 1).val := by
  rw [rd_binary V 281 (.of main_v13 : TRef sig ⟨S128x100000, .f32⟩) (.of main_arg0 : TRef sig ⟨S128x100000, .f32⟩) (.of main_v14 : TRef sig ⟨S128x100000, .f32⟩) (addf (F := Ideal)) rfl rfl (by decide) (by decide),
    addf_at,
    rd_unary V 280 (.of main_v12 : TRef sig ⟨S128x100000, .f32⟩) (.of main_v13 : TRef sig ⟨S128x100000, .f32⟩) (Host.negf (F := Ideal)) rfl rfl (by decide), negf_at,
    rd_unary V 279 (.of main_v11 : TRef sig ⟨S128x100000, .f32⟩) (.of main_v12 : TRef sig ⟨S128x100000, .f32⟩) (Host.log (F := Ideal)) rfl rfl (by decide), log_at,
    rd_unary V 278 (.of main_v10 : TRef sig ⟨S128x100000, .f32⟩) (.of main_v11 : TRef sig ⟨S128x100000, .f32⟩) (Host.negf (F := Ideal)) rfl rfl (by decide), negf_at,
    rd_unary V 277 (.of main_v9 : TRef sig ⟨S128x100000, .f32⟩) (.of main_v10 : TRef sig ⟨S128x100000, .f32⟩) (Host.log (F := Ideal)) rfl rfl (by decide), log_at,
    ref_unif]
  unfold noisy
  rw [sub_eq_add_neg, add_comm]

end Cert.Sampler

end
-- ==== Proof.RefArgmax.lean ====
/-
  The search for the largest, as the reference writes it: one reduction over the columns of (score,
  column number) pairs.  Its body keeps the larger score and, among equal scores, the smaller number,
  so whatever the order of the columns the number left over is the first column with the largest score.
-/
module

public import proofs.«01_k».proof.Proof.RefValue
public import proofs.«01_k».proof.Proof.Score
public import proofs.«01_k».proof.Proof.Argmax
public import Idealize.ShloMosaic.Lib.Pipeline.Value

@[expose] public section
set_option maxRecDepth 65536
noncomputable section

namespace Cert.Sampler
open Idealize.ShloMosaic Idealize.ShloMosaic.TcCoe Idealize.SL.Sem Idealize.ShloMosaic.StableHlo
open Cert.ReferenceIdeal Cert.ReferenceIdeal.Gen

theorem ofNat_slt (i c : ℕ) (hi : i < 100000) (hc : c < 100000) :
    (BitVec.ofNat 32 i).slt (BitVec.ofNat 32 c) = decide (i < c) := by
  have ei : (BitVec.ofNat 32 i).toInt = i := by
    rw [BitVec.toInt_eq_toNat_of_lt (by rw [BitVec.toNat_ofNat]; omega), BitVec.toNat_ofNat, Nat.mod_eq_of_lt (by omega)]
  have ec : (BitVec.ofNat 32 c).toInt = c := by
    rw [BitVec.toInt_eq_toNat_of_lt (by rw [BitVec.toNat_ofNat]; omega), BitVec.toNat_ofNat, Nat.mod_eq_of_lt (by omega)]
  unfold BitVec.slt
  rw [ei, ec]
  simp

/-- The body of the reduction on two pairs. -/
theorem body_at (b y : EReal) (i c : ℕ) (hi : i < 100000) (hc : c < 100000) :
    reducer_argmax_f32_i32 (F := Ideal) (b, BitVec.ofNat 32 i) (y, BitVec.ofNat 32 c)
      = (if y < b then b else y, BitVec.ofNat 32 (if y < b ∨ (b = y ∧ i < c) then i else c)) := by
  have key : reducer_argmax_f32_i32 (F := Ideal) (b, BitVec.ofNat 32 i) (y, BitVec.ofNat 32 c)
      = (Scalar.select (IntOp.ori (Ideal.cmp .ogt b y) (Ideal.cmp .une b b)) b y,
         Scalar.select (IntOp.ori (IntOp.ori (Ideal.cmp .ogt b y) (Ideal.cmp .une b b))
           (IntOp.andi (Ideal.cmp .oeq b y) (IntOp.cmpi .slt (BitVec.ofNat 32 i) (BitVec.ofNat 32 c))))
           (BitVec.ofNat 32 i) (BitVec.ofNat 32 c)) := rfl
  rw [key]
  simp only [Ideal.cmp, IntOp.cmpi, ofNat_slt i c hi hc]
  by_cases h1 : y < b
  · by_cases h2 : b = y <;> by_cases h3 : i < c <;> simp [h1, h2, h3, Scalar.select, IntOp.ori, IntOp.andi]
  · by_cases h2 : b = y <;> by_cases h3 : i < c <;> simp [h1, h2, h3, Scalar.select, IntOp.ori, IntOp.andi]

/-- The running pair over a list of columns of one lane. -/
theorem run_at (A : Logits.Idx → EReal) (lane : Fin 128) (x : S128x100000.Idx → EReal) (y : S128x100000.Idx → W)
    (hx : ∀ j, x j = score A (j 0) (j 1).val) (hy : ∀ j, y j = BitVec.ofNat 32 (j 1).val) (L : List S128x100000.Idx) :
    (∀ j ∈ L, j 0 = lane) → ∀ (P : ℕ → Prop) (b : EReal) (i : ℕ), i < 100000 → First (score A lane) P b i →
    ∃ (b' : EReal) (i' : ℕ), (L.map fun j => (x j, y j)).foldl (reducer_argmax_f32_i32 (F := Ideal)) (b, BitVec.ofNat 32 i)
        = (b', BitVec.ofNat 32 i') ∧ First (score A lane) (fun c => P c ∨ ∃ j ∈ L, c = (j 1).val) b' i' := by
  induction L with
  | nil =>
    intro _ P b i _ h
    exact ⟨b, i, rfl, h.congr fun c => by simp⟩
  | cons j L ih =>
    intro hL P b i hi h
    have hj : (j 1).val < 100000 := (j 1).isLt
    have hl : j 0 = lane := hL j (List.mem_cons_self ..)
    rw [List.map_cons, List.foldl_cons, hx j, hy j, hl, body_at _ _ _ _ hi hj]
    obtain ⟨b', i', h1, h2⟩ := ih (fun k hk => hL k (List.mem_cons_of_mem _ hk)) _ _ _ (by split <;> assumption)
      (h.any (c := (j 1).val))
    refine ⟨b', i', h1, h2.congr fun c => ?_⟩
    rw [List.exists_mem_cons_iff, or_assoc]

variable (V : Valuation τ sig (Elt Ideal))

/-- The column numbers the reference pairs the scores with. -/
theorem ref_cols (j : S128x100000.Idx) : rd V main_call1.v0 j = BitVec.ofNat 32 (j 1).val := by
  rw [rd_nullary V 282 main_call1.v0 (iotaInDim S128x100000 32 1) rfl rfl]
  rfl

/-- A lane's place in the row of results. -/
def slot (lane : Fin 128) : S1x128.Idx := fun a =>
  match a with
  | ⟨0, _⟩ => (0 : Fin 1)
  | ⟨1, _⟩ => lane

/-- The reduction on a lane: its columns in some order, one after the other. -/
theorem ref_reduced (j : S128.Idx) : ∃ (b : EReal) (i : ℕ),
    rd V (.of main_v15 : TRef sig ⟨S128, .i32⟩) j = BitVec.ofNat 32 i
    ∧ First (score (rd V (.of main_arg0 : TRef sig ⟨S128x100000, .f32⟩)) (j 0)) (fun c => c < 100000) b i := by
  rw [rd_quaternary V 286 (.of main_v14 : TRef sig ⟨S128x100000, .f32⟩) main_call1.v0 main_call1.cst main_call1.c (.of main_v15 : TRef sig ⟨S128, .i32⟩)
      (fun x y u v j => (Host.argReduce (F := Ideal) (reducer_argmax_f32_i32 (F := Ideal)) x y u v reducesTo_S128x100000_S128_d1 h_S_ j).2)
      rfl rfl (by decide) (by decide) (by decide) (by decide),
    Ideal.argReduce_eq_reduce2]
  beta_reduce
  rw [Host.reduce2_eq_foldl_fiber, Host.argReduceFiber,
    rd_nullary V 283 main_call1.cst (constant (F := Ideal) S_ .f32 0xFF800000#32) rfl rfl,
    rd_nullary V 284 main_call1.c (constantI S_ 32 0#32) rfl rfl, constant_at, neg_inf]
  obtain ⟨b, i, h1, h2⟩ := run_at (rd V (.of main_arg0 : TRef sig ⟨S128x100000, .f32⟩)) (j 0)
    (rd V (.of main_v14 : TRef sig ⟨S128x100000, .f32⟩)) (rd V main_call1.v0)
    (fun k => (ref_noisy V k).trans (score_at _ k).symm) (ref_cols V)
    (((List.finRange S128x100000.numel).filter fun n => reducesTo_S128x100000_S128_d1.drop (S128x100000.rowMajor.symm n) = j).map
      S128x100000.rowMajor.symm)
    (by
      intro k hk
      obtain ⟨n, hn, rfl⟩ := List.mem_map.mp hk
      have hd := of_decide_eq_true (List.mem_filter.mp hn).2
      have := reducesTo_S128x100000_S128_d1.drop_apply_val_of_eq (S128x100000.rowMajor.symm n) 0 0 (by decide)
      rw [hd] at this
      exact Fin.ext this.symm) _ _ 0 (by omega) First.empty
  rw [List.map_map] at h1
  refine ⟨b, i, congrArg Prod.snd h1, h2.congr fun c => ⟨?_, fun hc => .inr ?_⟩⟩
  · rintro (h | ⟨k, -, rfl⟩)
    · exact h.elim
    · exact (k 1).isLt
  · refine ⟨place (j 0) ⟨c, hc⟩, List.mem_map.mpr ⟨S128x100000.rowMajor (place (j 0) ⟨c, hc⟩), List.mem_filter.mpr ⟨List.mem_finRange _, ?_⟩, ?_⟩, rfl⟩
    · rw [Equiv.symm_apply_apply]
      refine decide_eq_true ?_
      funext a
      match a with
      | ⟨0, _⟩ => exact Fin.ext (reducesTo_S128x100000_S128_d1.drop_apply_val_of_eq (place (j 0) ⟨c, hc⟩) 0 0 (by decide))
    · rw [Equiv.symm_apply_apply]

/-- The result of the reference on a lane is the first column with the largest score. -/
theorem ref_first (lane : Fin 128) : ∃ (b : EReal) (i : ℕ),
    rd V (.of main_v16 : TRef sig ⟨S1x128, .i32⟩) (slot lane) = BitVec.ofNat 32 i
    ∧ First (score (rd V (.of main_arg0 : TRef sig ⟨S128x100000, .f32⟩)) lane) (fun c => c < 100000) b i := by
  rw [rd_reshape V 287 (.of main_v15 : TRef sig ⟨S128, .i32⟩) (.of main_v16 : TRef sig ⟨S1x128, .i32⟩) rfl shapeCasts_S128_S1x128 rfl rfl (by decide)]
  obtain ⟨b, i, h1, h2⟩ := ref_reduced V (fun a => match a with | ⟨0, _⟩ => lane)
  refine ⟨b, i, ?_, h2⟩
  rw [← h1]
  exact shapeCast_apply _ shapeCasts_S128_S1x128 (slot lane) _ (by
    rw [Shape.rowMajor_val_one, Shape.rowMajor_val_two]
    simp [slot])

end Cert.Sampler

end
-- ==== Proof.RefRun.lean ====
/-
  The reference's run: every buffer ends at what its line of operations leaves there.
-/
module

public import proofs.«01_k».proof.Proof.RefOps

@[expose] public section
set_option maxRecDepth 65536
noncomputable section

namespace Cert.Sampler
open Idealize.ShloMosaic Idealize.ShloMosaic.TcCoe Idealize.SL.Sem Idealize.ShloMosaic.StableHlo
open Cert.ReferenceIdeal Cert.ReferenceIdeal.Gen

theorem forall_cons {α : Type*} {p : α → Prop} {a : α} {l : List α} (h : p a) (ht : l.Forall p) : (a :: l).Forall p :=
  (List.forall_cons p a l).mpr ⟨h, ht⟩

/-- An operation that stays within the device's buffers and makes none of its own. -/
def Kept (op : HloOp τ sig (Elt Ideal)) : Prop := op.bufs ⊆ tcRefs τ sig ∧ op.fresh = ∅

section
variable {Ta Tb Tc Td Ty : BufTy} (a : TRef sig Ta) (b : TRef sig Tb) (c : TRef sig Tc) (d : TRef sig Td) (y : TRef sig Ty)

theorem kept_nullary (v : Ty.Contents (Elt Ideal)) : Kept (TRef.nullary y v) := ⟨nullary_bufs_sub .., rfl⟩

theorem kept_unary (f : Ta.Contents (Elt Ideal) → Ty.Contents (Elt Ideal)) : Kept (TRef.unary a y f) := ⟨unary_bufs_sub .., rfl⟩

theorem kept_binary (f : Ta.Contents (Elt Ideal) → Tb.Contents (Elt Ideal) → Ty.Contents (Elt Ideal)) : Kept (TRef.binary a b y f) :=
  ⟨binary_bufs_sub .., rfl⟩

theorem kept_quaternary (f : Ta.Contents (Elt Ideal) → Tb.Contents (Elt Ideal) → Tc.Contents (Elt Ideal) → Td.Contents (Elt Ideal) → Ty.Contents (Elt Ideal)) :
    Kept (TRef.quaternary a b c d y f) := ⟨quaternary_bufs_sub .., rfl⟩

theorem kept_reshape (he : Ta.elt = Ty.elt) (hn : Ta.shape.ShapeCasts Ty.shape) : Kept (TRef.reshape (τ := τ) (Val := Elt Ideal) a y he hn) :=
  ⟨reshape_bufs_sub .., rfl⟩
end

set_option maxHeartbeats 4000000 in
theorem refOps_kept : refOps.Forall Kept := by
  unfold refOps refSeq
  repeat (refine forall_cons ?_ ?_; with_reducible first | exact kept_binary .. | exact kept_unary .. | exact kept_nullary .. | exact kept_quaternary .. | exact kept_reshape ..)
  trivial

variable (m : (ℓ : Loc nD τ sig) → Buf (Elt Ideal) ℓ) (ρ : Dev nD → PrngReg)

/-- The reference runs; its result buffer ends at the line's, and its argument is as it was. -/
theorem ref_run : θ_run (defs (F := Ideal)) (onTc (τ := τ) (main (F := Ideal))) ⟨m, fun _ => 0, ρ⟩ fun r =>
    ∀ c : Dev nD, r.2.mem ((c.tc : Thread nD τ).loc main_v16) = fin (launchContents m c) main_v16
      ∧ r.2.mem ((c.tc : Thread nD τ).loc main_arg0) = m ((c.tc : Thread nD τ).loc main_arg0) :=
  (θ_run (defs (F := Ideal)) _ _).mono
    (fun r h c => ⟨h c main_v16, (h c main_arg0).trans (refOps_inOrder.keep main_arg0 (by decide) (launchContents m c))⟩)
    (run_hlo (defs (F := Ideal)) (main (F := Ideal)) refSeq.2 (by decide) (by decide) (List.forall_iff_forall_mem.mpr fun op h => (List.forall_iff_forall_mem.mp refOps_kept op h).1)
      (fun op h => (List.forall_iff_forall_mem.mp refOps_kept op h).2) m ρ)

end Cert.Sampler

end
-- ==== Proof.Equal.lean ====
/-
  The kernel and the reference end with the same row of results.

  Each holds on a lane the first column with the largest score (`kernel_first`, `ref_first`), of the
  same logits; that column is determined (`First.unique`).
-/
module

public import proofs.«01_k».proof.Defs
public import proofs.«01_k».proof.Proof.Chunk
public import proofs.«01_k».proof.Proof.RefArgmax
public import proofs.«01_k».proof.Proof.RefRun

@[expose] public section
set_option maxRecDepth 16384
noncomputable section

namespace Cert.Sampler
open Idealize.ShloMosaic Idealize.ShloMosaic.TcCoe Idealize.SL.Sem

/-- Two rows of results that hold the first largest column on every lane are one. -/
theorem rows_unique (A : Logits.Idx → EReal) (v w : Vec Ideal Cert.KernelIdeal.S1x128 .i32)
    (hv : ∀ lane : Fin 128, ∃ (b : EReal) (i : ℕ), v (kslot lane) = BitVec.ofNat 32 i ∧ First (score A lane) (fun c => c < 100000) b i)
    (hw : ∀ lane : Fin 128, ∃ (b : EReal) (i : ℕ), w (kslot lane) = BitVec.ofNat 32 i ∧ First (score A lane) (fun c => c < 100000) b i) : v = w := by
  funext j
  have hj : kslot (j 1) = j := by
    funext a
    match a with
    | ⟨0, _⟩ => exact Fin.ext (by have := (j 0).isLt; show 0 = (j 0).val; exact (Nat.lt_one_iff.mp this).symm)
    | ⟨1, _⟩ => rfl
  obtain ⟨b, i, h1, h2⟩ := hv (j 1)
  obtain ⟨b', i', h1', h2'⟩ := hw (j 1)
  rw [← hj, h1, h1', h2.unique h2']

section
open Cert.ReferenceIdeal Cert.ReferenceIdeal.Gen Idealize.ShloMosaic.StableHlo
variable (m : (ℓ : Loc nD τ sig) → Buf (Elt Ideal) ℓ) (c : Dev nD)

theorem logits_kept : rd (launchContents m c) (.of main_arg0 : TRef sig ⟨S128x100000, .f32⟩) = m ((c.tc : Thread nD τ).loc main_arg0) :=
  refOps_inOrder.keep main_arg0 (by decide) (launchContents m c)

/-- The reference's result holds on each lane the first column with the largest score. -/
theorem reference_first : ∃ v : Vec Ideal S1x128 .i32, fin (launchContents m c) main_v16 = v ∧ ∀ lane : Fin 128, ∃ (b : EReal) (i : ℕ),
    v (slot lane) = BitVec.ofNat 32 i ∧ First (score (m ((c.tc : Thread nD τ).loc main_arg0)) lane) (fun col => col < 100000) b i := by
  refine ⟨rd (launchContents m c) (.of main_v16 : TRef sig ⟨S1x128, .i32⟩), rfl, fun lane => ?_⟩
  rw [← logits_kept m c]
  exact ref_first (launchContents m c) lane
end

/-- The value claim. -/
theorem algebraic : Cert.algebraic_KernelIdeal_ReferenceIdeal := by
  intro m g m' g' _ hag
  refine ⟨fun c => Cert.KernelIdeal.Value.G1 m c, Cert.KernelIdeal.Value.run (F := Ideal) m g, ?_⟩
  refine (θ_run (Cert.ReferenceIdeal.defs (F := Ideal)) _ _).mono (fun r h c => ⟨(h c).1.trans ?_, (h c).2⟩) (ref_run m' g')
  obtain ⟨v, hv, hv'⟩ := kernel_first m c
  obtain ⟨w, hw, hw'⟩ := reference_first m' c
  rw [hag c] at hw'
  exact hw.trans ((rows_unique (m ((c.tc : Thread Cert.KernelIdeal.nD Cert.KernelIdeal.τ).loc Cert.KernelIdeal.main_arg0)) w v hw' hv').trans hv.symm)

/-- The reference runs, ends with its counters at zero, and leaves its argument as it was. -/
theorem reference_frame : Cert.quiescent_ReferenceIdeal := fun m g _ =>
  (θ_run (Cert.ReferenceIdeal.defs (F := Ideal)) _ _).mono
    (fun r h => ⟨fun c => (h c).2, Idealize.ShloMosaic.sem_eq_zero_of_no_sems (by decide) r.2⟩) (ref_run m g)

end Cert.Sampler

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Sampler.reference_frame, trivial,
  Cert.Sampler.algebraic⟩

end Cert.Proof

end
